-- ==== Defs.lean ====
def Pre_Kernel [hPre_token_ids_in_range : Cert.Pre_token_ids_in_range.Facts] (m : (ℓ : Loc Cert.Kernel.nD Cert.Kernel.τ Cert.Kernel.sig) → Buf (Elt Bits) ℓ) : Prop :=
  ∀ c : Dev Cert.Kernel.nD,
    (Cert.Pre_token_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_token_ids_in_range : Cert.Pre_token_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_token_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_decoding_state [hPre_decoding_state : Cert.Pre_decoding_state.Facts] (m : (ℓ : Loc Cert.KernelIdeal.nD Cert.KernelIdeal.τ Cert.KernelIdeal.sig) → Buf (Elt Ideal) ℓ) : Prop :=
  ∀ c : Dev Cert.KernelIdeal.nD,
    (Cert.Pre_decoding_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decoding_state [hPre_decoding_state : Cert.Pre_decoding_state.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decoding_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_token_ids_in_range : Cert.Pre_token_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_token_ids_in_range : Cert.Pre_token_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decoding_state [hKernelIdeal : Cert.KernelIdeal.Facts] [hPre_decoding_state : Cert.Pre_decoding_state.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decoding_state m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decoding_state [hReferenceIdeal : Cert.ReferenceIdeal.Facts] [hPre_decoding_state : Cert.Pre_decoding_state.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decoding_state m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_decoding_state [hKernelIdeal : Cert.KernelIdeal.Facts] [hReferenceIdeal : Cert.ReferenceIdeal.Facts] [hPre_decoding_state : Cert.Pre_decoding_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decoding_state m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_token_ids_in_range : Cert.Pre_token_ids_in_range.Facts) (hPre_decoding_state : Cert.Pre_decoding_state.Facts),
    quiescent_Kernel (hKernel := hKernel) (hPre_token_ids_in_range := hPre_token_ids_in_range)
    ∧ quiescent_KernelIdeal (hKernelIdeal := hKernelIdeal) (hPre_token_ids_in_range := hPre_token_ids_in_range)
    ∧ quiescent_KernelIdeal_pre_decoding_state (hKernelIdeal := hKernelIdeal) (hPre_decoding_state := hPre_decoding_state)
    ∧ quiescent_ReferenceIdeal (hReferenceIdeal := hReferenceIdeal)
    ∧ quiescent_ReferenceIdeal_pre_decoding_state (hReferenceIdeal := hReferenceIdeal) (hPre_decoding_state := hPre_decoding_state)
    ∧ preserves_Kernel_KernelIdeal
    ∧ algebraic_KernelIdeal_ReferenceIdeal_pre_decoding_state (hKernelIdeal := hKernelIdeal) (hReferenceIdeal := hReferenceIdeal) (hPre_decoding_state := hPre_decoding_state)
-- ==== Pre_decoding_state.lean ====
abbrev S64x1 : Shape := ⟨2, ![64, 1]⟩
abbrev S100000x128 : Shape := ⟨2, ![100000, 128]⟩
abbrev S128x100000 : Shape := ⟨2, ![128, 100000]⟩
abbrev S100000 : Shape := ⟨1, ![100000]⟩
abbrev S64x2047 : Shape := ⟨2, ![64, 2047]⟩
abbrev S1 : Shape := ⟨1, ![1]⟩
abbrev S_ : Shape := ⟨0, ![]⟩
abbrev S1x1 : Shape := ⟨2, ![1, 1]⟩

class Facts : Prop where
  bcast_S_S1 : S_.BroadcastsInDim S1 (![] : Fin 0 → Fin S1.rank)
  bcast_S_S64x1 : S_.BroadcastsInDim S64x1 (![] : Fin 0 → Fin S64x1.rank)
  bcast_S_S64x2047 : S_.BroadcastsInDim S64x2047 (![] : Fin 0 → Fin S64x2047.rank)
  bcast_S64x1_S64x2047_0_1 : S64x1.BroadcastsInDim S64x2047 (![0, 1] : Fin 2 → Fin S64x2047.rank)
  bcast_S1_S1x1_1 : S1.BroadcastsInDim S1x1 (![1] : Fin 1 → Fin S1x1.rank)
  bcast_S1x1_S64x2047_0_1 : S1x1.BroadcastsInDim S64x2047 (![0, 1] : Fin 2 → Fin S64x2047.rank)

variable [Facts]

def fn_part1 {F : FTy → Type} [FloatOps F] (main_v0 : IVec S64x2047 32) (main_v8 : IVec S1 1) (main_v17 : IVec S64x2047 1) (main_c_3 : IVec S_ 32) : IVec S64x2047 1 :=
  let main_v18 : IVec S64x2047 32 := broadcastInDim S64x2047 ![] bcast_S_S64x2047 main_c_3
  let main_v19 : IVec S64x2047 1 := cmpi .slt main_v0 main_v18
  let main_v20 : IVec S64x2047 1 := andi main_v17 main_v19
  let main_v21 : IVec S1x1 1 := broadcastInDim S1x1 ![1] bcast_S1_S1x1_1 main_v8
  let main_v22 : IVec S64x2047 1 := broadcastInDim S64x2047 ![0, 1] bcast_S1x1_S64x2047_0_1 main_v21
  let main_v23 : IVec S64x2047 1 := andi main_v20 main_v22
  main_v23

def fn {F : FTy → Type} [FloatOps F] (main_arg0 : IVec S64x1 32) (main_arg1 : FVec F S100000x128 .f32) (main_arg2 : FVec F S128x100000 .f32) (main_arg3 : FVec F S100000 .f32) (main_arg4 : FVec F S64x2047 .f32) (main_arg5 : FVec F S1 .f32) : IVec S64x2047 1 :=
  let main_v0 : IVec S64x2047 32 := fptosi 32 main_arg4
  let main_cst : FVec F S_ .f32 := constant S_ .f32 0x44FFE000#32
  let main_v1 : FVec F S1 .f32 := broadcastInDim S1 ![] bcast_S_S1 main_cst
  let main_v2 : IVec S1 1 := cmpf .oge main_arg5 main_v1
  let main_cst_0 : FVec F S_ .f32 := constant S_ .f32 0x00000000#32
  let main_v3 : FVec F S1 .f32 := broadcastInDim S1 ![] bcast_S_S1 main_cst_0
  let main_v4 : IVec S1 1 := cmpf .oge main_arg5 main_v3
  let main_v5 : FVec F S1 .f32 := Host.floor main_arg5
  let main_v6 : IVec S1 1 := cmpf .oeq main_v5 main_arg5
  let main_v7 : IVec S1 1 := andi main_v4 main_v6
  let main_v8 : IVec S1 1 := ori main_v2 main_v7
  let main_c : IVec S_ 32 := constantI S_ 32 0#32
  let main_v9 : IVec S64x1 32 := broadcastInDim S64x1 ![] bcast_S_S64x1 main_c
  let main_v10 : IVec S64x1 1 := cmpi .sge main_arg0 main_v9
  let main_c_1 : IVec S_ 32 := constantI S_ 32 100000#32
  let main_v11 : IVec S64x1 32 := broadcastInDim S64x1 ![] bcast_S_S64x1 main_c_1
  let main_v12 : IVec S64x1 1 := cmpi .slt main_arg0 main_v11
  let main_v13 : IVec S64x1 1 := andi main_v10 main_v12
  let main_c_2 : IVec S_ 32 := constantI S_ 32 0#32
  let main_v14 : IVec S64x2047 32 := broadcastInDim S64x2047 ![] bcast_S_S64x2047 main_c_2
  let main_v15 : IVec S64x2047 1 := cmpi .sge main_v0 main_v14
  let main_v16 : IVec S64x2047 1 := broadcastInDim S64x2047 ![0, 1] bcast_S64x1_S64x2047_0_1 main_v13
  let main_v17 : IVec S64x2047 1 := andi main_v16 main_v15
  let main_c_3 : IVec S_ 32 := constantI S_ 32 100000#32
  fn_part1 (F := F) main_v0 main_v8 main_v17 main_c_3
-- ==== Pre_token_ids_in_range.lean ====
abbrev S64x1 : Shape := ⟨2, ![64, 1]⟩
abbrev S100000x128 : Shape := ⟨2, ![100000, 128]⟩
abbrev S128x100000 : Shape := ⟨2, ![128, 100000]⟩
abbrev S100000 : Shape := ⟨1, ![100000]⟩
abbrev S64x2047 : Shape := ⟨2, ![64, 2047]⟩
abbrev S1 : Shape := ⟨1, ![1]⟩
abbrev S_ : Shape := ⟨0, ![]⟩

class Facts : Prop where
  bcast_S_S64x1 : S_.BroadcastsInDim S64x1 (![] : Fin 0 → Fin S64x1.rank)
  bcast_S_S64x2047 : S_.BroadcastsInDim S64x2047 (![] : Fin 0 → Fin S64x2047.rank)
  bcast_S64x1_S64x2047_0_1 : S64x1.BroadcastsInDim S64x2047 (![0, 1] : Fin 2 → Fin S64x2047.rank)

variable [Facts]

def fn {F : FTy → Type} [FloatOps F] (main_arg0 : IVec S64x1 32) (main_arg1 : FVec F S100000x128 .f32) (main_arg2 : FVec F S128x100000 .f32) (main_arg3 : FVec F S100000 .f32) (main_arg4 : FVec F S64x2047 .f32) (main_arg5 : FVec F S1 .f32) : IVec S64x2047 1 :=
  let main_v0 : IVec S64x2047 32 := fptosi 32 main_arg4
  let main_c : IVec S_ 32 := constantI S_ 32 0#32
  let main_v1 : IVec S64x1 32 := broadcastInDim S64x1 ![] bcast_S_S64x1 main_c
  let main_v2 : IVec S64x1 1 := cmpi .sge main_arg0 main_v1
  let main_c_0 : IVec S_ 32 := constantI S_ 32 100000#32
  let main_v3 : IVec S64x1 32 := broadcastInDim S64x1 ![] bcast_S_S64x1 main_c_0
  let main_v4 : IVec S64x1 1 := cmpi .slt main_arg0 main_v3
  let main_v5 : IVec S64x1 1 := andi main_v2 main_v4
  let main_c_1 : IVec S_ 32 := constantI S_ 32 0#32
  let main_v6 : IVec S64x2047 32 := broadcastInDim S64x2047 ![] bcast_S_S64x2047 main_c_1
  let main_v7 : IVec S64x2047 1 := cmpi .sge main_v0 main_v6
  let main_v8 : IVec S64x2047 1 := broadcastInDim S64x2047 ![0, 1] bcast_S64x1_S64x2047_0_1 main_v5
  let main_v9 : IVec S64x2047 1 := andi main_v8 main_v7
  let main_c_2 : IVec S_ 32 := constantI S_ 32 100000#32
  let main_v10 : IVec S64x2047 32 := broadcastInDim S64x2047 ![] bcast_S_S64x2047 main_c_2
  let main_v11 : IVec S64x2047 1 := cmpi .slt main_v0 main_v10
  let main_v12 : IVec S64x2047 1 := andi main_v9 main_v11
  main_v12
-- ==== Kernel.lean ====
abbrev S64x1 : Shape := ⟨2, ![64, 1]⟩
abbrev S100000x128 : Shape := ⟨2, ![100000, 128]⟩
abbrev S128x100000 : Shape := ⟨2, ![128, 100000]⟩
abbrev S100000 : Shape := ⟨1, ![100000]⟩
abbrev S64x2047 : Shape := ⟨2, ![64, 2047]⟩
abbrev S1 : Shape := ⟨1, ![1]⟩
abbrev S_ : Shape := ⟨0, ![]⟩
abbrev S64 : Shape := ⟨1, ![64]⟩
abbrev S1x100000 : Shape := ⟨2, ![1, 100000]⟩
abbrev S1x106496 : Shape := ⟨2, ![1, 106496]⟩
abbrev S64x128 : Shape := ⟨2, ![64, 128]⟩
abbrev S1x128 : Shape := ⟨2, ![1, 128]⟩
abbrev S64x1664 : Shape := ⟨2, ![64, 1664]⟩
abbrev S128x8192 : Shape := ⟨2, ![128, 8192]⟩
abbrev S1x8192 : Shape := ⟨2, ![1, 8192]⟩
abbrev S64x8192 : Shape := ⟨2, ![64, 8192]⟩
abbrev S8192 : Shape := ⟨1, ![8192]⟩
abbrev S2 : Shape := ⟨1, ![2]⟩

abbrev nBuf : Space → Nat
  | .hbm => 45
  | .vmem => 16
  | .smem => 3
  | _ => 0

abbrev bufTy : (tb : Table) → Fin (tcTables nBuf tb) → BufTy
  | .hbm, ⟨0, _⟩ => ⟨S64x1, .i32⟩
  | .hbm, ⟨1, _⟩ => ⟨S100000x128, .f32⟩
  | .hbm, ⟨2, _⟩ => ⟨S128x100000, .f32⟩
  | .hbm, ⟨3, _⟩ => ⟨S100000, .f32⟩
  | .hbm, ⟨4, _⟩ => ⟨S64x2047, .f32⟩
  | .hbm, ⟨5, _⟩ => ⟨S1, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S64x1, .f32⟩
  | .hbm, ⟨27, _⟩ => ⟨S_, .i32⟩
  | .hbm, ⟨28, _⟩ => ⟨S_, .i1⟩
  | .hbm, ⟨29, _⟩ => ⟨S64, .i32⟩
  | .hbm, ⟨30, _⟩ => ⟨S64, .f32⟩
  | .hbm, ⟨31, _⟩ => ⟨S64, .i32⟩
  | .hbm, ⟨32, _⟩ => ⟨S64x1, .i32⟩
  | .hbm, ⟨33, _⟩ => ⟨S1x100000, .f32⟩
  | .hbm, ⟨34, _⟩ => ⟨S_, .f32⟩
  | .hbm, ⟨35, _⟩ => ⟨S_, .f32⟩
  | .hbm, ⟨36, _⟩ => ⟨S1x106496, .f32⟩
  | .hbm, ⟨37, _⟩ => ⟨S64x128, .f32⟩
  | .hbm, ⟨38, _⟩ => ⟨S64x1664, .f32⟩
  | .hbm, ⟨39, _⟩ => ⟨S64x1664, .i32⟩
  | .hbm, ⟨40, _⟩ => ⟨S1, .i32⟩
  | .hbm, ⟨41, _⟩ => ⟨S1, .i32⟩
  | .hbm, ⟨42, _⟩ => ⟨S64x1, .i32⟩
  | .hbm, ⟨43, _⟩ => ⟨S64x2047, .f32⟩
  | .hbm, ⟨44, _⟩ => ⟨S1, .f32⟩
  | .local _ .vmem, ⟨0, _⟩ => ⟨S64x128, .f32⟩
  | .local _ .vmem, ⟨1, _⟩ => ⟨S64x128, .f32⟩
  | .local _ .vmem, ⟨2, _⟩ => ⟨S128x8192, .f32⟩
  | .local _ .vmem, ⟨3, _⟩ => ⟨S128x8192, .f32⟩
  | .local _ .vmem, ⟨4, _⟩ => ⟨S1x8192, .f32⟩
  | .local _ .vmem, ⟨5, _⟩ => ⟨S1x8192, .f32⟩
  | .local _ .vmem, ⟨6, _⟩ => ⟨S64x128, .f32⟩
  | .local _ .vmem, ⟨7, _⟩ => ⟨S64x128, .f32⟩
  | .local _ .vmem, ⟨8, _⟩ => ⟨S64x128, .i32⟩
  | .local _ .vmem, ⟨9, _⟩ => ⟨S64x128, .i32⟩
  | .local _ .vmem, ⟨10, _⟩ => ⟨S64x1, .i32⟩
  | .local _ .vmem, ⟨11, _⟩ => ⟨S64x1664, .f32⟩
  | .local _ .vmem, ⟨12, _⟩ => ⟨S64x1664, .i32⟩
  | .local _ .vmem, ⟨13, _⟩ => ⟨S64x2047, .f32⟩
  | .local _ .vmem, ⟨14, _⟩ => ⟨S64x1, .i32⟩
  | .local _ .vmem, ⟨15, _⟩ => ⟨S64x2047, .f32⟩
  | .local _ .smem, ⟨0, _⟩ => ⟨S64, .i32⟩
  | .local _ .smem, ⟨1, _⟩ => ⟨S2, .i32⟩
  | .local _ .smem, ⟨2, _⟩ => ⟨S1, .f32⟩
  | _, _ => ⟨S64x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_call0_v0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_c_4 : Ref sig .tc := ⟨.hbm, 22, rfl⟩
abbrev main_v9 : Ref sig .tc := ⟨.hbm, 23, rfl⟩
abbrev main_v10 : Ref sig .tc := ⟨.hbm, 24, rfl⟩
abbrev main_c_5 : Ref sig .tc := ⟨.hbm, 25, rfl⟩
abbrev main_v11 : Ref sig .tc := ⟨.hbm, 26, rfl⟩
abbrev main_c_6 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v17 : Ref sig .tc := ⟨.hbm, 32, rfl⟩
abbrev main_v18 : Ref sig .tc := ⟨.hbm, 33, rfl⟩
abbrev main_cst_7 : Ref sig .tc := ⟨.hbm, 34, rfl⟩
abbrev main_call2_v0 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v22 : Ref sig .tc := ⟨.hbm, 40, rfl⟩
abbrev main_v23 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev main_v16 : Ref sig .tc := ⟨.smem, 0, rfl⟩
abbrev main_v24 : Ref sig .tc := ⟨.smem, 1, rfl⟩
abbrev cc0_stg0_0 : Ref sig .tc := ⟨.vmem, 0, rfl⟩
abbrev cc1_stg0_0 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.smem, 2, rfl⟩
abbrev cc0_sem0_0 : DmaSem sig := 0
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let v2 : Index := Scalar.indexCast arg5
  ![v2.toNat]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c0_i32_5 : BitVec 32 := 0#32
  ![arg5.toNat, 0]
def k0_off3 (v3 : BitVec 32) : Fin 2 → Nat :=
  let c0_i32_6 : BitVec 32 := 0#32
  ![v3.toNat, 0]

def k0_chk1 (v3 : BitVec 32) : Prop :=
  (∀ a, (k0_off3 v3) a + S1x128.size a ≤ S100000x128.size a)
theorem k0_off3_inb : ∀ (v3 : BitVec 32) (k0_hw1 : k0_chk1 v3), ∀ a, (k0_off3 v3) a + S1x128.size a ≤ S100000x128.size a := fun v3 k0_hw1 => k0_hw1

@[reducible] def k0_t2_loop : Scf.Loop 32 :=
  let c0_i32_1 : BitVec 32 := 0#32
  let c64_i32_2 : BitVec 32 := 64#32
  let v1 : BitVec 32 := Scalar.addi c0_i32_1 c64_i32_2
  let c1_i32_3 : BitVec 32 := 1#32
  ⟨c0_i32_1, v1, c1_i32_3⟩
def k0_off4 (k0_t2 : Fin k0_t2_loop.trips) : Fin 1 → Nat :=
  let c0_i32_1 : BitVec 32 := 0#32
  let c1_i32_3 : BitVec 32 := 1#32
  let arg5 : BitVec 32 := Scf.iv c0_i32_1 c1_i32_3 k0_t2
  let v2 : Index := Scalar.indexCast arg5
  ![v2.toNat]
def k0_off5 (k0_t2 : Fin k0_t2_loop.trips) : Fin 2 → Nat :=
  let c0_i32_1 : BitVec 32 := 0#32
  let c1_i32_3 : BitVec 32 := 1#32
  let arg5 : BitVec 32 := Scf.iv c0_i32_1 c1_i32_3 k0_t2
  let c0_i32_5 : BitVec 32 := 0#32
  ![arg5.toNat, 0]
def k0_off6 (v3 : BitVec 32) : Fin 2 → Nat :=
  let c0_i32_6 : BitVec 32 := 0#32
  ![v3.toNat, 0]

def k0_chk2 (v3 : BitVec 32) : Prop :=
  (∀ a, (k0_off6 v3) a + S1x128.size a ≤ S100000x128.size a)
theorem k0_off6_inb : ∀ (v3 : BitVec 32) (k0_hw2 : k0_chk2 v3), ∀ a, (k0_off6 v3) a + S1x128.size a ≤ S100000x128.size a := fun v3 k0_hw2 => k0_hw2

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

abbrev pre2 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 1 → Memref sig .tc .vmem S64x1 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x1664 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1664 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2047 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x2047 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .smem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== KernelIdeal.lean ====
variable {F : FTy → Type} [FloatOps F] [Named F]
def κ : String → Option EReal := fun
  | "neg" => some ⊥
  | _ => none
-- ==== ReferenceIdeal.lean ====
abbrev S64x1 : Shape := ⟨2, ![64, 1]⟩
abbrev S100000x128 : Shape := ⟨2, ![100000, 128]⟩
abbrev S128x100000 : Shape := ⟨2, ![128, 100000]⟩
abbrev S100000 : Shape := ⟨1, ![100000]⟩
abbrev S64x2047 : Shape := ⟨2, ![64, 2047]⟩
abbrev S1 : Shape := ⟨1, ![1]⟩
abbrev S_ : Shape := ⟨0, ![]⟩
abbrev S1x1 : Shape := ⟨2, ![1, 1]⟩
abbrev S64x2048 : Shape := ⟨2, ![64, 2048]⟩
abbrev S64x1x1 : Shape := ⟨3, ![64, 1, 1]⟩
abbrev S1x1x1 : Shape := ⟨3, ![1, 1, 1]⟩
abbrev S64x1x128 : Shape := ⟨3, ![64, 1, 128]⟩
abbrev S64x1x100000 : Shape := ⟨3, ![64, 1, 100000]⟩
abbrev S1x1x100000 : Shape := ⟨3, ![1, 1, 100000]⟩
abbrev S64x100000 : Shape := ⟨2, ![64, 100000]⟩
abbrev S64 : Shape := ⟨1, ![64]⟩

abbrev nBuf : Space → Nat
  | .hbm => 150
  | .vmem => 0
  | .smem => 0
  | _ => 0

abbrev hbmTy0_0 (i : Nat) : BufTy := match i % 128 with
  | 0 => ⟨S64x1, .i32⟩
  | 1 => ⟨S100000x128, .f32⟩
  | 2 => ⟨S128x100000, .f32⟩
  | 3 => ⟨S100000, .f32⟩
  | 4 => ⟨S64x2047, .f32⟩
  | 5 => ⟨S1, .f32⟩
  | 6 => ⟨S_, .f32⟩
  | 7 => ⟨S1, .f32⟩
  | 8 => ⟨S1, .i1⟩
  | 9 => ⟨S1, .f32⟩
  | 10 => ⟨S1, .f32⟩
  | 11 => ⟨S_, .f32⟩
  | 12 => ⟨S1, .f32⟩
  | 13 => ⟨S1, .i1⟩
  | 14 => ⟨S1, .f32⟩
  | 15 => ⟨S_, .f32⟩
  | 16 => ⟨S1, .f32⟩
  | 17 => ⟨S1, .f32⟩
  | 18 => ⟨S1x1, .f32⟩
  | 19 => ⟨S64x2047, .f32⟩
  | 20 => ⟨S64x2047, .f32⟩
  | 21 => ⟨S_, .f32⟩
  | 22 => ⟨S64x2047, .f32⟩
  | 23 => ⟨S1x1, .f32⟩
  | 24 => ⟨S64x2047, .f32⟩
  | 25 => ⟨S64x2047, .f32⟩
  | 26 => ⟨S_, .f32⟩
  | 27 => ⟨S64x2047, .f32⟩
  | 28 => ⟨S64x2047, .f32⟩
  | 29 => ⟨S64x2047, .f32⟩
  | 30 => ⟨S_, .f32⟩
  | 31 => ⟨S1, .f32⟩
  | 32 => ⟨S1, .f32⟩
  | 33 => ⟨S1, .f32⟩
  | 34 => ⟨S64x2047, .i32⟩
  | 35 => ⟨S64x2048, .i32⟩
  | 36 => ⟨S1, .i32⟩
  | 37 => ⟨S_, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i1⟩
  | 46 => ⟨S_, .i32⟩
  | 47 => ⟨S1, .i32⟩
  | 48 => ⟨S1, .i32⟩
  | 49 => ⟨S1, .i32⟩
  | 50 => ⟨S1x1, .i32⟩
  | 51 => ⟨S1, .i32⟩
  | 52 => ⟨S_, .i32⟩
  | 53 => ⟨S1x1, .i32⟩
  | 54 => ⟨S1x1, .i1⟩
  | 55 => ⟨S1x1, .i32⟩
  | 56 => ⟨S1x1, .i1⟩
  | 57 => ⟨S1x1, .i1⟩
  | 58 => ⟨S_, .i1⟩
  | 59 => ⟨S1, .i1⟩
  | 60 => ⟨S64x1, .i32⟩
  | 61 => ⟨S64x1, .i1⟩
  | 62 => ⟨S_, .i32⟩
  | 63 => ⟨S64x1, .i32⟩
  | 64 => ⟨S64x1, .i32⟩
  | 65 => ⟨S_, .i32⟩
  | 66 => ⟨S64x1, .i32⟩
  | 67 => ⟨S64x1, .i1⟩
  | 68 => ⟨S_, .i32⟩
  | 69 => ⟨S64x1, .i32⟩
  | 70 => ⟨S64x1, .i32⟩
  | 71 => ⟨S64x1, .i32⟩
  | 72 => ⟨S64x1x1, .i32⟩
  | 73 => ⟨S1, .i32⟩
  | 74 => ⟨S_, .i32⟩
  | 75 => ⟨S64x1x1, .i32⟩
  | 76 => ⟨S64x1x1, .i1⟩
  | 77 => ⟨S1x1x1, .i32⟩
  | 78 => ⟨S64x1x1, .i32⟩
  | 79 => ⟨S64x1x1, .i1⟩
  | 80 => ⟨S64x1x1, .i1⟩
  | 81 => ⟨S_, .i1⟩
  | 82 => ⟨S64x1, .i1⟩
  | 83 => ⟨S64x1x128, .f32⟩
  | 84 => ⟨S64x1x128, .i1⟩
  | 85 => ⟨S_, .f32⟩
  | 86 => ⟨S64x1x128, .f32⟩
  | 87 => ⟨S64x1x128, .f32⟩
  | 88 => ⟨S64x1x100000, .f32⟩
  | 89 => ⟨S1x1x100000, .f32⟩
  | 90 => ⟨S64x1x100000, .f32⟩
  | 91 => ⟨S64x1x100000, .f32⟩
  | 92 => ⟨S64x100000, .f32⟩
  | 93 => ⟨S64x100000, .i32⟩
  | 94 => ⟨S_, .f32⟩
  | 95 => ⟨S_, .i32⟩
  | 96 => ⟨S64, .f32⟩
  | 97 => ⟨S64, .i32⟩
  | 98 => ⟨S64x1, .i32⟩
  | 99 => ⟨S_, .i32⟩
  | 100 => ⟨S1, .i32⟩
  | 101 => ⟨S1, .i1⟩
  | 102 => ⟨S_, .i32⟩
  | 103 => ⟨S1, .i32⟩
  | 104 => ⟨S1, .i32⟩
  | 105 => ⟨S1, .i32⟩
  | 106 => ⟨S1x1, .i32⟩
  | 107 => ⟨S1, .i32⟩
  | 108 => ⟨S_, .i32⟩
  | 109 => ⟨S1x1, .i32⟩
  | 110 => ⟨S1x1, .i1⟩
  | 111 => ⟨S1x1, .i32⟩
  | 112 => ⟨S1x1, .i1⟩
  | 113 => ⟨S1x1, .i1⟩
  | 114 => ⟨S_, .i1⟩
  | 115 => ⟨S1, .i1⟩
  | 116 => ⟨S64x1, .i32⟩
  | 117 => ⟨S64x1, .i1⟩
  | 118 => ⟨S_, .i32⟩
  | 119 => ⟨S64x1, .i32⟩
  | 120 => ⟨S64x1, .i32⟩
  | 121 => ⟨S_, .i32⟩
  | 122 => ⟨S64x1, .i32⟩
  | 123 => ⟨S64x1, .i1⟩
  | 124 => ⟨S64x1, .i32⟩
  | 125 => ⟨S_, .i32⟩
  | 126 => ⟨S64x1, .i32⟩
  | 127 => ⟨S64x1, .i32⟩
  | _ => ⟨S64x1, .i32⟩

abbrev hbmTy0_1 (i : Nat) : BufTy := match i % 128 with
  | 0 => ⟨S_, .i32⟩
  | 1 => ⟨S64x1, .i32⟩
  | 2 => ⟨S64x1, .i32⟩
  | 3 => ⟨S64x1, .i32⟩
  | 4 => ⟨S64x1, .i32⟩
  | 5 => ⟨S1, .i32⟩
  | 6 => ⟨S_, .i32⟩
  | 7 => ⟨S64, .i32⟩
  | 8 => ⟨S_, .i32⟩
  | 9 => ⟨S64, .i32⟩
  | 10 => ⟨S64, .i32⟩
  | 11 => ⟨S64, .f32⟩
  | 12 => ⟨S_, .i32⟩
  | 13 => ⟨S_, .i1⟩
  | 14 => ⟨S_, .i32⟩
  | 15 => ⟨S_, .i32⟩
  | 16 => ⟨S_, .i32⟩
  | 17 => ⟨S1, .i32⟩
  | 18 => ⟨S64x2047, .f32⟩
  | 19 => ⟨S_, .f32⟩
  | 20 => ⟨S1, .f32⟩
  | 21 => ⟨S1, .f32⟩
  | _ => ⟨S64x1, .i32⟩

abbrev hbmTy (i : Nat) : BufTy := match i / 128 with
  | 0 => hbmTy0_0 i
  | 1 => hbmTy0_1 i
  | _ => ⟨S64x1, .i32⟩

abbrev bufTy : (tb : Table) → Fin (tcTables nBuf tb) → BufTy
  | .hbm, ⟨i, _⟩ => hbmTy i
  | _, _ => ⟨S64x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_c_3 : Ref sig .tc := ⟨.hbm, 58, rfl⟩
abbrev main_call0_v11 : Ref sig .tc := ⟨.hbm, 59, rfl⟩
abbrev main_call0_v12 : Ref sig .tc := ⟨.hbm, 60, rfl⟩
abbrev main_call0_v13 : Ref sig .tc := ⟨.hbm, 61, rfl⟩
abbrev main_call0_c_4 : Ref sig .tc := ⟨.hbm, 62, rfl⟩
abbrev main_call0_v14 : Ref sig .tc := ⟨.hbm, 63, rfl⟩
abbrev main_v29 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_call2_v0 : Ref sig .tc := ⟨.hbm, 93, rfl⟩
abbrev main_call2_cst : Ref sig .tc := ⟨.hbm, 94, rfl⟩
abbrev main_call2_c : Ref sig .tc := ⟨.hbm, 95, rfl⟩
abbrev main_call2_v1_0 : Ref sig .tc := ⟨.hbm, 96, rfl⟩
abbrev main_v36 : Ref sig .tc := ⟨.hbm, 97, rfl⟩
abbrev main_v37 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_c_3 : Ref sig .tc := ⟨.hbm, 114, rfl⟩
abbrev main_call3_v11 : Ref sig .tc := ⟨.hbm, 115, rfl⟩
abbrev main_call3_v12 : Ref sig .tc := ⟨.hbm, 116, rfl⟩
abbrev main_call3_v13 : Ref sig .tc := ⟨.hbm, 117, rfl⟩
abbrev main_call3_c_4 : Ref sig .tc := ⟨.hbm, 118, rfl⟩
abbrev main_call3_v14 : Ref sig .tc := ⟨.hbm, 119, rfl⟩
abbrev main_v38 : Ref sig .tc := ⟨.hbm, 120, rfl⟩
abbrev main_c_6 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_c_7 : Ref sig .tc := ⟨.hbm, 125, rfl⟩
abbrev main_v42 : Ref sig .tc := ⟨.hbm, 126, rfl⟩
abbrev main_v43 : Ref sig .tc := ⟨.hbm, 127, rfl⟩
abbrev main_c_8 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_c_9 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_c_10 : Ref sig .tc := ⟨.hbm, 140, rfl⟩
abbrev main_v54 : Ref sig .tc := ⟨.hbm, 141, rfl⟩
abbrev main_c_11 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_cst_12 : Ref sig .tc := ⟨.hbm, 147, rfl⟩
abbrev main_v59 : Ref sig .tc := ⟨.hbm, 148, rfl⟩
abbrev main_v60 : Ref sig .tc := ⟨.hbm, 149, rfl⟩

abbrev nD : Nat := 1
abbrev τ : Topo := Topo.v7x

variable {F : FTy → Type} [FloatOps F]
-- ==== Proof.Pre.lean ====
/-
  What the first precondition says of the arguments, entry by entry: a token id is a row of the embedding table, and so
  is the integer part of every entry of the token buffer.
-/
module

public import proofs.«01_k».proof.Pre_token_ids_in_range
public import Idealize.ShloMosaic.Lib.StableHlo.Predicate
public import Idealize.ShloMosaic.Lib.Decide

@[expose] public section

noncomputable section

namespace Cert.Pre

open Idealize.ShloMosaic Idealize.ShloMosaic.StableHlo.Predicate

/-- Both bits of a conjunction that holds hold. -/
theorem both {a b : BitVec 1} (h : a &&& b = 1#1) : a = 1#1 ∧ b = 1#1 := by
  revert a b; decide

/-- A word at least 0 and below 100000, both read signed, is below 100000 read unsigned. -/
theorem in_range {w : BitVec 32} (h0 : IntOp.cmpi .sge w 0#32 = 1#1) (h1 : IntOp.cmpi .slt w 100000#32 = 1#1) : w.toNat < 100000 := by
  have h0' : (0#32).sle w = true := by
    unfold IntOp.cmpi at h0
    by_contra h
    simp only [Bool.not_eq_true] at h
    simp [h] at h0
  have h1' : w.slt 100000#32 = true := by
    unfold IntOp.cmpi at h1
    by_contra h
    simp only [Bool.not_eq_true] at h
    simp [h] at h1
  rw [BitVec.sle_iff_toInt_le] at h0'
  rw [BitVec.slt_iff_toInt_lt] at h1'
  simp only [BitVec.toInt_eq_toNat_cond, BitVec.toNat_ofNat] at h0' h1'
  have := w.isLt
  split at h1' <;> simp at h0' h1' <;> omega

variable {F : FTy → Type} [FloatOps F]

section Ids

open Cert.Pre_token_ids_in_range

variable [Cert.Pre_token_ids_in_range.Facts]
  {a0 : IVec S64x1 32} {a1 : FVec F S100000x128 .f32} {a2 : FVec F S128x100000 .f32} {a3 : FVec F S100000 .f32}
  {a4 : FVec F S64x2047 .f32} {a5 : FVec F S1 .f32}

/-- Where the first precondition holds, the token ids and the buffer's integer parts are table rows. -/
theorem ids_of (h : fn a0 a1 a2 a3 a4 a5 = fun _ => 1#1) :
    (∀ i, (a0 i).toNat < 100000) ∧ ∀ j, (fptosi 32 a4 j : BitVec 32).toNat < 100000 := by
  have key : ∀ j : S64x2047.Idx, _ := fun j => by
    have hj := congrFun h j
    obtain ⟨h1, h2⟩ := both hj
    obtain ⟨h3, h4⟩ := both h1
    exact And.intro h3 (in_range (w := fptosi 32 a4 j) h4 h2)
  refine ⟨fun i => ?_, fun j => (key j).2⟩
  have h3 := (bcast_of_col (n := 64) (m := 2047) Facts.bcast_S64x1_S64x2047_0_1 _ (i 0) 0).symm.trans (key (ij (i 0) (0 : Fin 2047))).1
  obtain ⟨h5, h6⟩ := both h3
  have hi : (ixP (n := 64) (i 0) : S64x1.Idx) = i := by
    funext a
    match a with
    | ⟨0, _⟩ => rfl
    | ⟨1, _⟩ => exact (Fin.eq_zero _).symm
  exact hi ▸ in_range (w := a0 (ixP (n := 64) (i 0))) h5 h6

end Ids

end Cert.Pre

end
-- ==== Proof.KI.Setup.lean ====
/-
  The algebra the run of the kernel's program is proved in: two copies of the pipeline library's ghost state side by side
  (the launch takes the first, the chain of host operations and calls the second) and the counters of the gather's transfers.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Lib.Exec
public import Idealize.ShloMosaic.Lib.Tactic
public import Idealize.ShloMosaic.Lib.Transfers
public import Idealize.ShloMosaic.Lib.Batch
public import Idealize.ShloMosaic.Lib.Pipeline.Kit
public import Idealize.ShloMosaic.Lib.Pipeline.Regions
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The user algebra: the pipeline library's ghost state twice, and the transfers' counters. -/
abbrev UX : Type := UR sig nD τ × (UR sig nD τ × Counters)

variable {F : FTy → Type} [FloatOps F] [Named F]

local notation "𝕄" => MT nD τ sig Unit (Elt F) ℕ UX ℕ

/-- The first copy of the pipeline library's ghost state, in the machine's algebra; -/
abbrev EP1 : Emb (UR sig nD τ) 𝕄 := embL

/-- the second; -/
def EP2 : Emb (UR sig nD τ) 𝕄 :=
  (Emb.inl : Emb (UR sig nD τ) (UR sig nD τ × Counters)).trans (embR (A := UR sig nD τ))

instance EP2_landsIn : (EP2 : Emb (UR sig nD τ) 𝕄).LandsIn (upEmb : UEmb _ 𝕄) := by unfold EP2 embR; infer_instance

/-- and the counters. -/
abbrev EC : UEmb Counters 𝕄 := countersEmb (U := UX)

/-- A buffer of core `c` held whole at `f`, named through its memref. -/
abbrev memPt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦{q} f

end Cert.KernelIdeal.Hand

end
-- ==== Proof.KI.Host.lean ====
/-
  What the host operations ahead of the calls compute, as functions of the arguments.
-/
module

public import proofs.«01_k».proof.Proof.KI.Setup
public import Idealize.ShloMosaic.Lib.VecWindow
public import Idealize.ShloMosaic.Lib.StableHlo.RunClose

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UX ℕ

/-- The effective step: the counter below the last column, zero otherwise; -/
def stp (s : Vec F S1 .f32) : Vec F S_ .f32 :=
  select (cmpf .olt (shapeCast S_ s shapeCasts_S1_S_) (constant S_ .f32 0x44FFE000#32)) (shapeCast S_ s shapeCasts_S1_S_) (constant S_ .f32 0x00000000#32)
/-- the column it names; -/
def colH (s : Vec F S1 .f32) : Vec F S_ .i32 := fptosi 32 (stp s)
/-- whether the decoding begins; -/
def begH (s : Vec F S1 .f32) : Vec F S_ .i32 := extui 32 (cmpf .oeq (stp s) (constant S_ .f32 0x00000000#32)) natLt_1_32
/-- the previous column, at least zero; -/
def pcol (s : Vec F S1 .f32) : Vec F S_ .i32 := maxsi (subi (colH s) (constantI S_ 32 1#32)) (constantI S_ 32 0#32)
/-- the column the previous tokens are read at; -/
def rcol (s : Vec F S1 .f32) : Vec F S_ .i32 :=
  select (cmpi .slt (pcol s) (constantI S_ 32 0#32)) (addi (pcol s) (constantI S_ 32 2047#32)) (pcol s)
/-- the slice's two starts; -/
def starts (s : Vec F S1 .f32) : Fin 2 → Int := ![(constantI S_ 32 0#32 (Shape.Idx.first h_S_)).toInt, (rcol s (Shape.Idx.first h_S_)).toInt]
/-- the previous tokens; -/
def prevH (s : Vec F S1 .f32) (gen : Vec F S64x2047 .f32) : Vec F S64 .i32 :=
  fptosi 32 (shapeCast S64 (Host.dynamicSlice S64x1 gen (starts s) sliceFits_S64x2047_S64x1) shapeCasts_S64x1_S64)
/-- and the tokens whose rows are gathered. -/
def curH (ids : Vec F S64x1 .i32) (gen : Vec F S64x2047 .f32) (s : Vec F S1 .f32) : Vec F S64 .i32 :=
  select (broadcastInDim S64 ![] bcast_S_S64 (cmpi .eq (begH s) (constantI S_ 32 1#32))) (shapeCast S64 ids shapeCasts_S64x1_S64) (prevH s gen)

variable (V : Valuation τ sig (Elt F))

theorem h0_v0 : StableHlo.after hostOps0 V (Proc.devRef .tc main_v0) = shapeCast S_ (V main_arg5 : Vec F S1 .f32) shapeCasts_S1_S_ := by
  after_results_entrywise []
theorem h0_v1 : StableHlo.after hostOps0 V (Proc.devRef .tc main_v1) = cmpf .olt (shapeCast S_ (V main_arg5 : Vec F S1 .f32) shapeCasts_S1_S_) (constant S_ .f32 0x44FFE000#32) := by
  after_results_entrywise []
theorem h0_c0 : StableHlo.after hostOps0 V (Proc.devRef .tc main_cst_0) = (constant S_ .f32 0x00000000#32 : Vec F S_ .f32) := by
  after_results_entrywise []
theorem h1_v2 : StableHlo.after hostOps0_1 V (Proc.devRef .tc main_v2) = select (V main_v1 : Vec F S_ .i1) (V main_v0 : Vec F S_ .f32) (V main_cst_0 : Vec F S_ .f32) := by
  after_results_entrywise []
theorem h2_v4 : StableHlo.after hostOps0_2 V (Proc.devRef .tc main_v4) = extui 32 (cmpf .oeq (V main_v2 : Vec F S_ .f32) (constant S_ .f32 0x00000000#32)) natLt_1_32 := by
  after_results_entrywise []
theorem h2_v5 : StableHlo.after hostOps0_2 V (Proc.devRef .tc main_v5) = fptosi 32 (V main_v2 : Vec F S_ .f32) := by
  after_results_entrywise []
theorem h2_v12 : StableHlo.after hostOps0_2 V (Proc.devRef .tc main_v12) = cmpi .eq (extui 32 (cmpf .oeq (V main_v2 : Vec F S_ .f32) (constant S_ .f32 0x00000000#32)) natLt_1_32) (constantI S_ 32 1#32) := by
  after_results_entrywise []
theorem h2_v13 : StableHlo.after hostOps0_2 V (Proc.devRef .tc main_v13) = shapeCast S64 (V main_arg0 : Vec F S64x1 .i32) shapeCasts_S64x1_S64 := by
  after_results_entrywise []
theorem h2_v15 (s : Vec F S1 .f32) (hs : V main_v2 = stp s) : StableHlo.after hostOps0_2 V (Proc.devRef .tc main_v15) = prevH s (V main_arg4) := by
  after_results_simp_entrywise
  simp only [hs]
  unfold prevH
  refine congrArg (fptosi 32) (congrArg (fun x => shapeCast S64 x shapeCasts_S64x1_S64) (congrArg (fun x => Host.dynamicSlice S64x1 (V main_arg4 : Vec F S64x2047 .f32) x sliceFits_S64x2047_S64x1) ?_))
  funext k
  fin_cases k <;> rfl
theorem h3_v16 : StableHlo.after hostOps0_3 V (Proc.devRef .tc main_v16) = select (broadcastInDim S64 ![] bcast_S_S64 (V main_v12 : Vec F S_ .i1)) (V main_v13 : Vec F S64 .i32) (V main_v15 : Vec F S64 .i32) := by
  after_results_entrywise []
theorem h4_v17 : StableHlo.after hostOps0_4 V (Proc.devRef .tc main_v17) = broadcastInDim S64x1 ![0] bcast_S64_S64x1_0 (V main_v16 : Vec F S64 .i32) := by
  after_results_entrywise []
theorem h4_v18 : StableHlo.after hostOps0_4 V (Proc.devRef .tc main_v18) = shapeCast S1x100000 (V main_arg3 : Vec F S100000 .f32) shapeCasts_S100000_S1x100000 := by
  after_results_entrywise []
theorem h4_c7 : StableHlo.after hostOps0_4 V (Proc.devRef .tc main_cst_7) = (constant S_ .f32 0xF149F2CA#32 : Vec F S_ .f32) := by
  after_results_entrywise []
theorem h5_v19 : StableHlo.after hostOps0_5 V (Proc.devRef .tc main_v19) = pad S1x106496 ![0, 0] ![0, 6496] ![0, 0] (V main_v18 : Vec F S1x100000 .f32) (V main_cst_7 : Vec F S_ .f32) pads_S1x100000_S1x106496_000_064960 h_S_ := by
  after_results_entrywise []

variable (m : (ℓ : Loc nD τ sig) → Buf (Elt F) ℓ) (c : Dev nD)

theorem V2_v2 : V2 m c main_v2 = stp (V0 m c main_arg5) := by
  rw [show V2 m c main_v2 = _ from h1_v2 _, show V1 m c main_v0 = _ from h0_v0 _, show V1 m c main_v1 = _ from h0_v1 _, show V1 m c main_cst_0 = _ from h0_c0 _]
  rfl
theorem V2_args (r : Ref sig .tc) (h : r ∉ hostOps0_W) (h' : r ∉ hostOps0_1_W) : V2 m c r = V0 m c r :=
  (V2_of m c r h').trans (V1_of m c r h)
theorem V3_v4 : V3 m c main_v4 = begH (V0 m c main_arg5) := by
  rw [show V3 m c main_v4 = _ from h2_v4 _, V2_v2]; rfl
theorem V3_v5 : V3 m c main_v5 = colH (V0 m c main_arg5) := by
  rw [show V3 m c main_v5 = _ from h2_v5 _, V2_v2]; rfl
theorem V4_v16 : V4 m c main_v16 = curH (V0 m c main_arg0) (V0 m c main_arg4) (V0 m c main_arg5) := by
  rw [show V4 m c main_v16 = _ from h3_v16 _, show V3 m c main_v12 = _ from h2_v12 _, show V3 m c main_v13 = _ from h2_v13 _,
    show V3 m c main_v15 = _ from h2_v15 _ _ (V2_v2 m c), V2_v2, V2_args m c main_arg0 (by decide) (by decide), V2_args m c main_arg4 (by decide) (by decide)]
  rfl
theorem V6_v16 : V6 m c main_v16 = curH (V0 m c main_arg0) (V0 m c main_arg4) (V0 m c main_arg5) :=
  (V6_of m c main_v16 (by decide)).trans ((V5_of m c main_v16 (by decide)).trans (V4_v16 m c))
theorem V6_v17 : V6 m c main_v17 = broadcastInDim S64x1 ![0] bcast_S64_S64x1_0 (curH (V0 m c main_arg0) (V0 m c main_arg4) (V0 m c main_arg5)) := by
  rw [V6_of m c main_v17 (by decide), show V5 m c main_v17 = _ from h4_v17 _, V4_v16]
theorem V6_v4 : V6 m c main_v4 = begH (V0 m c main_arg5) := by
  rw [V6_of m c main_v4 (by decide), V5_of m c main_v4 (by decide), V4_of m c main_v4 (by decide), V3_v4]
theorem V6_v5 : V6 m c main_v5 = colH (V0 m c main_arg5) := by
  rw [V6_of m c main_v5 (by decide), V5_of m c main_v5 (by decide), V4_of m c main_v5 (by decide), V3_v5]
theorem V6_arg (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) : V6 m c r = V0 m c r :=
  (V6_of m c r h5).trans <| (V5_of m c r h4).trans <| (V4_of m c r h3).trans <| (V3_of m c r h2).trans (V2_args m c r h0 h1)
theorem V6_v19 : V6 m c main_v19 = pad S1x106496 ![0, 0] ![0, 6496] ![0, 0] (shapeCast S1x100000 (V0 m c main_arg3 : Vec F S100000 .f32) shapeCasts_S100000_S1x100000)
    (constant S_ .f32 0xF149F2CA#32 : Vec F S_ .f32) pads_S1x100000_S1x106496_000_064960 h_S_ := by
  rw [show V6 m c main_v19 = _ from h5_v19 _, show V5 m c main_v18 = _ from h4_v18 _, show V5 m c main_cst_7 = _ from h4_c7 _,
    V4_of m c main_arg3 (by decide), V3_of m c main_arg3 (by decide), V2_args m c main_arg3 (by decide) (by decide)]

end Cert.KernelIdeal.Hand

end
-- ==== Proof.KI.Gather.lean ====
/-
  The gather call's body: 64 transfers, one per slot, each of the embedding row the slot's token names into the slot's
  row of the staging buffer, all on one semaphore; then 64 waits.  Run once, it leaves the gathered rows and gives
  the embedding table back.
-/
module

public import proofs.«01_k».proof.Proof.KI.Setup
public import Idealize.ShloMosaic.Lib.VecWindow
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UX ℕ

/-- The number of slots. -/
abbrev nS : ℕ := k0_t1_loop.trips
theorem nS_eq : nS = 64 := by decide +kernel

/-- Slot `t`'s word of the table. -/
def wd (f1 : Vec F S64 .i32) (t : Fin nS) : BitVec 32 :=
  f1 (fun a => ⟨t.val, by
    have h := t.isLt; have := nS_eq; fin_cases a; show t.val < 64; omega⟩)

/-- The row of the embedding table a word names, and slot `t`'s row of the staging buffer. -/
abbrev srcM (v : BitVec 32) (h : k0_chk1 v) : Memref sig .tc .hbm S1x128 .f32 :=
  (Memref.whole main_arg1).slice (Rect.unit (s := S100000x128) (k0_off3 v) S1x128.size (k0_off3_inb v h)) (fun _ => rfl)
abbrev dstM (t : Fin nS) : Memref sig .tc .vmem S1x128 .f32 :=
  (Memref.whole cc0_stg0_0).slice (Rect.unit (s := S64x128) (k0_off2 t) S1x128.size (k0_off2_inb t)) (fun _ => rfl)

section Gather

variable (c : Dev nD) (f1 : Vec F S64 .i32) (hc : ∀ t, k0_chk1 (wd f1 t))
  (fe : Vec F S100000x128 .f32) (fd : Vec F S64x128 .f32)

/-- Slot `t`'s row of the staging buffer, not yet written; its share of the source row. -/
def dRow (t : Fin nS) : sProp 𝕄 :=
  (dstM t).view.loc (c : Thread nD τ) ↦[(dstM t).view.set]{fullShare} fd
def sRow (t : Fin nS) : sProp 𝕄 :=
  (srcM (wd f1 t) (hc t)).view.loc (c : Thread nD τ) ↦[(srcM (wd f1 t) (hc t)).view.set]{Transfers.shareTok fullShare nS t} fe

/-- What transfer `t` delivers: the row written, and the share of the source row. -/
def dlv (t : Fin nS) : sProp 𝕄 :=
  iprop(((dstM t).view.loc (c : Thread nD τ) ↦[(dstM t).view.set]{fullShare}
      ((dstM t).view.write (Elt F) fd ((srcM (wd f1 t) (hc t)).view.read (Elt F) fe) Finset.univ))
    ∗ sRow c f1 hc fe t)

instance dlv_storable (t : Fin nS) : Storable (upEmb : UEmb _ 𝕄) (dlv c f1 hc fe fd t) := by
  unfold dlv sRow; infer_instance

/-- The units one row credits. -/
abbrev rowN : ℕ := (dstM ⟨0, by decide +kernel⟩).view.amount (SemLoc.dma cc0_scratch0.sem)

/-- The table, held by the kernel. -/
def tabPt : sProp 𝕄 := (Memref.whole main_v16).view.loc (c : Thread nD τ) ↦{fullShare} f1

abbrev gBatch (k u : ℕ) : sProp 𝕄 :=
  Transfers.Batch (EC (F := F)) (c : Thread nD τ) (SemLoc.dma cc0_scratch0.sem) () rowN (dlv c f1 hc fe fd) k u

/-- Before trip `k` of the first loop: the transfers before `k` issued. -/
def issueAt (k : ℕ) (_ : Unit) : sProp 𝕄 :=
  iprop(tabPt c f1 ∗ bigSep (Transfers.pending k) (dRow (F := F) c fd) ∗ bigSep (Transfers.pending k) (sRow c f1 hc fe)
    ∗ gBatch c f1 hc fe fd k 0)

/-- Before trip `k` of the second loop: `k` waited for. -/
def drainAt (k : ℕ) (_ : Unit) : sProp 𝕄 :=
  iprop(tabPt c f1 ∗ gBatch c f1 hc fe fd nS (k * rowN) ∗ ∃ W, owes (c : Thread nD τ) 0 W)

theorem issue_step (i : grid0.Coords) (k : Fin nS) (acc : Unit) :
    issueAt c f1 hc fe fd k.val acc ⊢ wp frame (wpE (defs₀ (F := F)) Variants.none c none) Set.univ
      (k0_t1_body i (Memref.whole main_v16) (Memref.isWhole_whole _) (Memref.whole main_arg1) (Memref.isWhole_whole _)
        (Memref.whole cc0_stg0_0) (Memref.isWhole_whole _) cc0_scratch0 k acc)
      (issueAt c f1 hc fe fd (k.val + 1)) := by
  unfold issueAt tabPt k0_t1_body
  rw [Transfers.bigSep_pending_step (dRow (F := F) c fd) k.val k.isLt, Transfers.bigSep_pending_step (sRow c f1 hc fe) k.val k.isLt]
  iintro ⟨HT, ⟨Hd, Hds⟩, ⟨Hs, Hss⟩, HB⟩
  sl_exec
  have hr : issue_step.sl.r f1 k = wd f1 k := by
    unfold issue_step.sl.r wd
    exact congrArg f1 (funext fun a => Fin.ext (by
      fin_cases a
      show (k0_off1 k 0 + 1 * 0 : ℕ) = k.val
      rw [k0_off1_eq]; rfl))
  generalize issue_step.sl.r f1 k = v at hr
  subst hr
  iapply (wp_assume Variants.none (c : Thread nD τ) none Set.univ (hc k))
  dsimp only []
  rw [Prog.bind_lift]
  iapply (Transfers.wp_dmaBatch (EC (F := F)) Variants.none (c : Thread nD τ) none () rowN (via := .same) rfl (le_refl _) k.isLt (Nat.zero_le _)
    (D := dlv c f1 hc fe fd) (fs := fe) (fd := fd) (src := srcM (wd f1 k) (hc k)) (dst := dstM k) (by unfold dlv sRow; exact .rfl)) $$ [Hd Hs HB]
  · unfold dRow sRow
    isplitl [Hs]; · iexact Hs
    isplitl [Hd] <;> iassumption
  iintro HB
  sl_step
  isplitl [HT]; · iexact HT
  isplitl [Hds]; · iexact Hds
  isplitl [Hss]; · iexact Hss
  iexact HB

theorem drain_step (hc2 : ∀ t, k0_chk2 (wd f1 t)) (i : grid0.Coords) (k : Fin nS) (acc : Unit) :
    drainAt c f1 hc fe fd k.val acc ⊢ wp frame (wpE (defs₀ (F := F)) Variants.none c none) Set.univ
      (k0_t2_body i (Memref.whole main_v16) (Memref.isWhole_whole _) (Memref.whole main_arg1) (Memref.isWhole_whole _)
        (Memref.whole cc0_stg0_0) (Memref.isWhole_whole _) cc0_scratch0 k acc)
      (drainAt c f1 hc fe fd (k.val + 1)) := by
  unfold drainAt tabPt k0_t2_body
  iintro ⟨HT, HB, ⟨%W, HO⟩⟩
  sl_exec
  have hr : drain_step.sl.r f1 k = wd f1 k := by
    unfold drain_step.sl.r wd
    exact congrArg f1 (funext fun a => Fin.ext (by
      fin_cases a
      show (k0_off4 k 0 + 1 * 0 : ℕ) = k.val
      rw [k0_off4_eq]; rfl))
  generalize drain_step.sl.r f1 k = v at hr
  subst hr
  iapply (wp_assume Variants.none (c : Thread nD τ) none Set.univ (hc2 k))
  dsimp only []
  rw [Prog.bind_lift]
  iapply (Transfers.wp_waitBatchMul (EC (F := F)) Variants.none (c : Thread nD τ) none () (N := rowN) 1 (by rfl)
    (D := dlv c f1 hc fe fd) (j := nS) (u := k.val * rowN) (by
      have := k.isLt; rw [← Nat.add_mul, Nat.mul_comm]; exact Nat.mul_le_mul_left _ this)) $$ [HB HO]
  · isplitl [HB] <;> iassumption
  iintro ⟨HB, HO⟩
  sl_step
  isplitl [HT]; · iexact HT
  isplitl [HB]
  · rw [show (k.val + 1) * rowN = k.val * rowN + 1 * rowN from Nat.add_mul _ _ _]; iexact HB
  iexists _; iexact HO

/-- The gathered rows. -/
def gathered (f1 : Vec F S64 .i32) (fe : Vec F S100000x128 .f32) : Vec F S64x128 .f32 := fun j =>
  fe (fun a => match a with
    | 0 => ⟨(f1 (fun b => match b with | 0 => j 0)).toNat % 100000, Nat.mod_lt _ (by decide)⟩
    | 1 => j 1)

theorem mem_dst (t : Fin nS) (y : S64x128.Idx) : y ∈ (dstM t).view.set ↔ (y 0).val = t.val := by
  show y ∈ ((View.whole cc0_stg0_0).slice (Rect.unit (s := S64x128) (k0_off2 t) S1x128.size (k0_off2_inb t))).set ↔ _
  rw [View.set_slice_whole, Rect.mem_set_unit, k0_off2_eq]
  have h1 : (y 1).val < 128 := (y 1).isLt
  constructor
  · intro H
    have a0 : t.val ≤ (y 0).val ∧ (y 0).val < t.val + 1 := H 0
    omega
  · intro H a
    fin_cases a
    · show t.val ≤ (y 0).val ∧ (y 0).val < t.val + 1; omega
    · show 0 ≤ (y 1).val ∧ (y 1).val < 0 + 128; omega

theorem dst_disjoint : ∀ t t' : Fin nS, t ≠ t' → Disjoint (dstM t).view.set (dstM t').view.set := fun t t' hne => by
  rw [Finset.disjoint_left]; intro y hy hy'; rw [mem_dst] at hy hy'; exact hne (Fin.ext (by omega))

theorem dst_cover : Finset.univ.biUnion (β := S64x128.Idx) (fun t : Fin nS => (dstM t).view.set) = Finset.univ := by
  ext y
  simp only [Finset.mem_biUnion, Finset.mem_univ, true_and, iff_true]
  have h0 : (y 0).val < 64 := (y 0).isLt
  exact ⟨⟨(y 0).val, by have := nS_eq; omega⟩, (mem_dst _ _).mpr rfl⟩

/-- The staging buffer whole is its rows. -/
theorem rows_eq (f : Vec F S64x128 .f32) :
    ((Memref.whole cc0_stg0_0).view.loc (c : Thread nD τ) ↦{fullShare} f : sProp 𝕄) = bigSep Finset.univ (dRow (F := F) c f) :=
  Ring.pointsTo_blocks (ℓ := (Memref.whole cc0_stg0_0).view.loc (c : Thread nD τ)) (q := fullShare)
    (fun t : Fin nS => (dstM t).view.set) dst_disjoint dst_cover f

/-- A delivered row is the gathered row. -/
theorem dlv_gathered (t : Fin nS) :
    dlv c f1 hc fe fd t ⊢ iprop(dRow c (gathered f1 fe) t ∗ sRow c f1 hc fe t) := by
  unfold dlv dRow
  rw [pointsTo_congr (g := gathered f1 fe)]
  intro y hy
  obtain ⟨x, -, rfl⟩ := Finset.mem_map.mp hy
  rw [View.write_emb_of_mem _ _ (Finset.mem_univ x)]
  have hv : (wd f1 t).toNat < 100000 := by
    have := hc t 0
    have h' : (wd f1 t).toNat + 1 ≤ 100000 := this
    omega
  show fe _ = fe _
  refine congrArg fe (funext fun a => Fin.ext ?_)
  have hx0 : (x 0).val = 0 := by have : (x 0).val < 1 := (x 0).isLt; omega
  have e0 : ((dstM t).view.emb x 0).val = t.val := (mem_dst t _).mp hy
  have ew : f1 (fun b => match b with | 0 => (dstM t).view.emb x 0) = wd f1 t := by
    unfold wd
    exact congrArg f1 (funext fun b => Fin.ext (by fin_cases b; exact e0))
  fin_cases a
  · show (wd f1 t).toNat + 1 * (x 0).val = (f1 (fun b => match b with | 0 => (dstM t).view.emb x 0)).toNat % 100000
    rw [ew, Nat.mod_eq_of_lt hv, hx0]; rfl
  · show 0 + 1 * (x 1).val = (k0_off2 t 1 + 1 * (x 1).val : ℕ)
    rw [k0_off2_eq]; rfl

/-- The embedding table: each slot's share of the row it reads, and the rest. -/
def embRest : sProp 𝕄 :=
  iprop(((Memref.whole main_arg1).view.loc (c : Thread nD τ) ↦{Transfers.shareDrop fullShare nS} fe)
    ∗ bigSep Finset.univ fun t : Fin nS => (Memref.whole main_arg1).view.loc (c : Thread nD τ)
        ↦[Finset.univ \ (srcM (wd f1 t) (hc t)).view.set]{Transfers.shareTok fullShare nS t} fe)

theorem emb_split :
    ((Memref.whole main_arg1).view.loc (c : Thread nD τ) ↦{fullShare} fe : sProp 𝕄)
      ⊣⊢ iprop(bigSep Finset.univ (sRow c f1 hc fe) ∗ embRest c f1 hc fe) := by
  have h1 : ∀ t : Fin nS, ((Memref.whole main_arg1).view.loc (c : Thread nD τ) ↦{Transfers.shareTok fullShare nS t} fe : sProp 𝕄)
      = iprop(sRow c f1 hc fe t ∗ ((Memref.whole main_arg1).view.loc (c : Thread nD τ)
        ↦[Finset.univ \ (srcM (wd f1 t) (hc t)).view.set]{Transfers.shareTok fullShare nS t} fe)) := fun t => by
    have hu := pointsTo_split_subset (Ix := Unit) (Name := ℕ) (U := UX) (Lvl := ℕ) (ℓ := (Memref.whole main_arg1).view.loc (c : Thread nD τ))
      (q := Transfers.shareTok fullShare nS t) (f := fe) (Finset.subset_univ ((srcM (wd f1 t) (hc t)).view.set : Finset S100000x128.Idx))
    exact Entails.antisymm hu.1 hu.2
  have h2 : (bigSep Finset.univ fun t : Fin nS => ((Memref.whole main_arg1).view.loc (c : Thread nD τ) ↦{Transfers.shareTok fullShare nS t} fe : sProp 𝕄))
      = iprop(bigSep Finset.univ (sRow c f1 hc fe) ∗ bigSep Finset.univ fun t : Fin nS => ((Memref.whole main_arg1).view.loc (c : Thread nD τ)
        ↦[Finset.univ \ (srcM (wd f1 t) (hc t)).view.set]{Transfers.shareTok fullShare nS t} fe)) := by
    exact (congrArg (bigSep Finset.univ) (funext h1)).trans (BI.bigSep_sep _ _ _)
  unfold embRest
  constructor
  · refine (Transfers.pointsTo_toks_split fullShare nS).trans ?_
    rw [h2]
    iintro ⟨Hd, Hs, Hr⟩
    isplitl [Hs]; · iexact Hs
    isplitl [Hd] <;> iassumption
  · refine BIBase.Entails.trans ?_ (Transfers.pointsTo_toks_join fullShare nS)
    rw [h2]
    iintro ⟨Hs, Hd, Hr⟩
    isplitl [Hd]; · iexact Hd
    isplitl [Hs] <;> iassumption

include hc in
/-- The gather call's body, once, for any continuation. -/
theorem kernelRun0 (hc2 : ∀ t, k0_chk2 (wd f1 t)) (i : grid0.Coords) (W : Waits sig Unit) (K : PUnit → sProp 𝕄) :
    iprop(tabPt c f1 ∗ ((Memref.whole main_arg1).view.loc (c : Thread nD τ) ↦{fullShare} fe)
        ∗ ((Memref.whole cc0_stg0_0).view.loc (c : Thread nD τ) ↦{fullShare} fd)
        ∗ semVal ((c : Thread nD τ), SemLoc.dma cc0_scratch0.sem) 0 ∗ owes (c : Thread nD τ) 0 W
        ∗ (iprop(tabPt c f1 ∗ ((Memref.whole main_arg1).view.loc (c : Thread nD τ) ↦{fullShare} fe)
            ∗ ((Memref.whole cc0_stg0_0).view.loc (c : Thread nD τ) ↦{fullShare} gathered f1 fe)
            ∗ semVal ((c : Thread nD τ), SemLoc.dma cc0_scratch0.sem) 0 ∗ ∃ W, owes (c : Thread nD τ) 0 W) -∗ K ⟨⟩))
      ⊢ wp frame (wpE (defs₀ (F := F)) Variants.none c none) Set.univ
          (cc0__gather_body i (Memref.whole main_v16) (Memref.isWhole_whole _) (Memref.whole main_arg1) (Memref.isWhole_whole _)
            (Memref.whole cc0_stg0_0) (Memref.isWhole_whole _) cc0_scratch0) K := by
  simp only [cc0__gather_body_eq_skeleton]; unfold cc0__gather_body_skel
  rw [rows_eq, rows_eq]
  iintro ⟨HT, HE, HD, Hc, HO, Hk⟩
  ihave HE' := (emb_split c f1 hc fe).1 $$ HE
  icases HE' with ⟨HS, HR⟩
  imod (Transfers.batch_alloc' (EC (F := F)) (c : Thread nD τ) () rowN (dlv c f1 hc fe fd) (sm := SemLoc.dma cc0_scratch0.sem) (E := Set.univ)) $$ Hc with HB
  iapply (Scf.wp_for_bind _ _ _ _ _ _ k0_t1_ok () _ (issueAt c f1 hc fe fd) (issue_step c f1 hc fe fd i)) $$ [HT HS HD HB]
  · unfold issueAt
    rw [Transfers.pending_zero]
    isplitl [HT]; · iexact HT
    isplitl [HD]; · iexact HD
    isplitl [HS]; · iexact HS
    iexact HB
  iintro %acc HL
  unfold issueAt
  icases HL with ⟨HT, -, -, HB⟩
  iapply (Scf.wp_for_bind _ _ _ _ _ _ k0_t2_ok () _ (drainAt c f1 hc fe fd) (drain_step c f1 hc fe fd hc2 i)) $$ [HT HB HO]
  · unfold drainAt
    isplitl [HT]; · iexact HT
    isplitl [HB]; · rw [Nat.zero_mul]; iexact HB
    iexists _; iexact HO
  iintro %acc2 HL
  unfold drainAt
  icases HL with ⟨HT, HB, HO⟩
  imod (Transfers.batch_collect' (EC (F := F)) (c : Thread nD τ) (N := rowN) (by decide +kernel) (D := dlv c f1 hc fe fd)) $$ [HB] with ⟨HD, Hc⟩
  · rw [show k0_t2_loop.trips * rowN = rowN * nS from Nat.mul_comm _ _]; iexact HB
  sl_step
  iapply Hk
  ihave HD' := (show bigSep Finset.univ (dlv c f1 hc fe fd) ⊢ iprop(bigSep Finset.univ (dRow c (gathered f1 fe)) ∗ bigSep Finset.univ (sRow c f1 hc fe)) from
    (BI.bigSep_mono fun t _ => dlv_gathered c f1 hc fe fd t).trans (Entails.of_eq (BI.bigSep_sep _ _ _))) $$ HD
  icases HD' with ⟨HD, HS⟩
  isplitl [HT]; · iexact HT
  isplitl [HS HR]
  · iapply (emb_split c f1 hc fe).2
    isplitl [HS] <;> iassumption
  isplitl [HD]; · iexact HD
  isplitl [Hc] <;> iassumption

end Gather

end Cert.KernelIdeal.Hand

end
-- ==== Proof.KI.Region0.lean ====
/-
  The gather call as a segment of @main: what its one grid point finds and leaves, and the thread states around it.
-/
module

public import proofs.«01_k».proof.Proof.KI.Setup
public import proofs.«01_k».proof.Proof.KI.Gather
public import Idealize.ShloMosaic.Lib.Pipeline.RegionArraysDT
public import Idealize.ShloMosaic.Lib.Pipeline.ValueKit.Geometry
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UX ℕ

open Idealize.ShloMosaic.Pipeline (Dat)

/-- Proof data no one reads: a family of data, one per call, is asked for where one call's are used. -/
def dumDat {cfg : Pipeline.Cfg sig Λ₀} (c : Dev nD) : Dat τ (Elt F) Unit ℕ UX ℕ cfg c where
  A _ := fun _ => Classical.arbitrary _
  after _ _ := fun _ => Classical.arbitrary _
  Φ _ := iprop(emp)
  q _ := fullShare
  owed _ := 0

/-- The buffers after the gather call. -/
def W7 (V : Valuation τ sig (Elt F)) : Valuation τ sig (Elt F) :=
  Function.update V main_v20 (gathered (V main_v16) (V main_arg1))

/-- The gather's own semaphore. -/
abbrev osem0 : Fin 1 → SemLoc sig := fun _ => SemLoc.dma 1
theorem ownSemFacts0 : Pipeline.OwnSemFacts spec0 osem0 := by decide
theorem ownSems00_eq (c : Dev nD) :
    (Pipeline.ownSems0 (Ix := Unit) (Name := ℕ) (U := UX) (Lvl := ℕ) (Val := Elt F) (τ := τ) osem0 c : sProp 𝕄)
      = semVal ((c : Thread nD τ), SemLoc.dma 1) 0 := by
  rw [Pipeline.ownSems0_eq_of_list c osem0 [0] (by decide) (by decide)]; rfl

def H0 : Finset (Ref sig .tc) := {main_arg1}
theorem hbmPts0_eq (c : Dev nD) (V : Valuation τ sig (Elt F)) :
    (bigSep H0 (fun b => ((c.tc : Thread nD τ).loc b) ↦{fullShare} V b) : sProp 𝕄)
      = iprop((Memref.whole main_arg1).view.loc (c : Thread nD τ) ↦{fullShare} V main_arg1) := by
  rw [BI.bigSep_eq_bigSepL_of_eq [main_arg1] (by decide) (by decide)]; rfl

variable (a : (p : Fin 3) → (pcfgs (F := F) p).Adm) (V : Dev nD → Valuation τ sig (Elt F))

/-- What the gather call's point needs beside its window. -/
def Phi0 (c : Dev nD) : sProp 𝕄 :=
  iprop(iprop(Pipeline.scopedRest spec0 c ∗ (∃ r, prngReg c r) ∗ Pipeline.ownSems0 osem0 c
        ∗ (bigSep H0 fun b => ((c.tc : Thread nD τ).loc b) ↦{fullShare} V c (Proc.devRef .tc b))) ∗ Pipeline.tablesAt pcfgs a 0 c)

def dat0 (c : Dev nD) : Dat τ (Elt F) Unit ℕ UX ℕ (Pipeline.pin pcfgs a 0) c where
  A w := V c (Pipeline.arrRef spec0 w)
  after | ⟨0, _⟩ => fun t => gathered (V c main_v16) (V c main_arg1)
  Φ _ := Phi0 a V c
  q _ := fullShare
  owed _ := 0

def dats0 : (p : Fin 3) → (c : Dev nD) → Dat τ (Elt F) Unit ℕ UX ℕ (Pipeline.pin pcfgs a p) c
  | ⟨0, _⟩, c => dat0 a V c
  | ⟨_ + 1, _⟩, c => dumDat c

theorem tables0_eq (c : Dev nD) (hT : ∀ k, (a 0).1 k = V c (Proc.devRef .tc (pre0.ref k))) :
    (Pipeline.tablesAt pcfgs a 0 c : sProp 𝕄) = tabPt c (V c main_v16) := by
  unfold Pipeline.tablesAt Pipeline.prefHeld tabPt
  refine (bigSep_univ_eq_bigSepL [(0 : Fin 1)] (by decide) (by decide) _).trans ?_
  show iprop((c.tc : Thread nD τ).loc main_v16 ↦{fullShare} (a 0).1 0) = _
  rw [hT 0]; rfl

/-- The point's body, from what it is handed to what it leaves. -/
theorem sound_body0 (c : Dev nD) (hT : ∀ k, (a 0).1 k = V c (Proc.devRef .tc (pre0.ref k)))
    (hc : ∀ t, k0_chk1 (wd (V c main_v16) t)) (bef : Vec F S64x128 .f32 → Vec F S64x128 .f32) (D : Waits sig Unit → Prop)
    (hD : ∀ W, D W) :
    (iprop(Phi0 a V c ∗ (∃ W, ⌜D W⌝ ∗ owes (c : Thread nD τ) (0 : CellTallies nD τ sig Unit) W)
        ∗ (∃ d, owns (c : Thread nD τ) (Memref.whole cc0_stg0_0) fullShare (bef d))) : sProp 𝕄)
      ⊢ wp frame (wpE (defs₀ (F := F)) Variants.none (c : Thread nD τ) none) Set.univ
        (cc0__gather_body (F := F) (grid0.coords t0_0) (Memref.whole main_v16) (Memref.isWhole_whole main_v16) (Memref.whole main_arg1) (Memref.isWhole_whole main_arg1) (Memref.whole cc0_stg0_0)
          (Memref.isWhole_whole cc0_stg0_0) cc0_scratch0)
        (fun _ => iprop(Phi0 a V c ∗ (∃ W, ⌜D W⌝ ∗ owes (c : Thread nD τ) (0 : CellTallies nD τ sig Unit) W)
        ∗ owns (c : Thread nD τ) (Memref.whole cc0_stg0_0) fullShare (gathered (V c main_v16) (V c main_arg1)))) := by
  unfold Phi0
  rw [tables0_eq a V c hT, ownSems00_eq, hbmPts0_eq]
  simp only [owns_whole]
  iintro ⟨⟨⟨Hsr, Hg, Hs, HE⟩, HT⟩, ⟨%W, %hW, HO⟩, ⟨%d0, H0⟩⟩
  iapply (kernelRun0 c (V c main_v16) hc (V c main_arg1) (bef d0) hc (grid0.coords t0_0) W _)
  isplitl [HT]; · iexact HT
  isplitl [HE]; · iexact HE
  isplitl [H0]; · iexact H0
  isplitl [Hs]; · iexact Hs
  isplitl [HO]; · iexact HO
  iintro ⟨HT, HE, H0, Hs, ⟨%W', HO⟩⟩
  isplitl [Hsr Hg Hs HE HT]
  · isplitr [HT]
    · isplitl [Hsr]; · iexact Hsr
      isplitl [Hg]; · iexact Hg
      isplitl [Hs]; · iexact Hs
      iexact HE
    iexact HT
  isplitl [HO]
  · iexists W'; isplitr; · ipureintro; exact hD _
    iexact HO
  iexact H0

/-- The point's body, from what the pipeline hands it to what it takes back. -/
theorem body_obligation0 (c : Dev nD) (hT : ∀ k, (a 0).1 k = V c (Proc.devRef .tc (pre0.ref k)))
    (hc : ∀ t, k0_chk1 (wd (V c main_v16) t)) :
    Pipeline.BodyObligationLoose (dats0 a V 0 c) (defs₀ (F := F)) Variants.none () Set.univ := fun t => by
  obtain rfl := fin_N0 t
  rw [bigSep_W0, bigSep_W0]
  exact triple_restated (sound_body0 a V c hT hc (fun d => (dats0 a V 0 c).before 0 t0_0 d) _ (fun _ _ _ => Or.inl trivial)) rfl .rfl fun _ => .rfl

theorem wholeAt0 : ((Pipeline.pin pcfgs a 0).win 0).WholeAt t0_0 :=
  ⟨by rfl, fun t _ => fin_N0 t, fun x => by fin_cases x <;> exact ⟨rfl, rfl⟩⟩

theorem final0 (c : Dev nD) : (dats0 a V 0 c).arrAt 0 (Pipeline.pin pcfgs a 0).N = gathered (V c main_v16) (V c main_arg1) := by
  refine (dats0 a V 0 c).arrAt_eq_of_after_last 0 t0_0 (wholeAt0 a) _ fun j => ?_
  rfl

/-- The arrays after the region. -/
theorem W7_of (V : Valuation τ sig (Elt F)) (r : Ref sig .tc) (h : r ≠ main_v20) : W7 V r = V r :=
  Function.update_of_ne (StableHlo.devRef_ne_of_ne h) _ _
theorem W7_v20 (V : Valuation τ sig (Elt F)) : W7 V main_v20 = gathered (V main_v16) (V main_arg1) :=
  Function.update_self ..

abbrev Lc : GSem nD τ sig → Finset Unit := fun g => if g.1.2 = .tc then {()} else ∅
abbrev lvc : GSem nD τ sig → Unit → ℕ := fun _ _ => 0

/-- The gather call's segment, entered at the valuation `V`, whose table is the admissible one and names rows of the
    embedding table. -/
def reg0 (Sr : Finset (DevRef τ sig)) (hS : Pipeline.hbmRefs (τ := τ) H0 ⊆ Sr) (Er : Dev nD → sProp 𝕄)
    (hT : ∀ c k, (a 0).1 k = V c (Proc.devRef .tc (pre0.ref k)))
    (hc : ∀ c t, k0_chk1 (wd (V c main_v16) t)) :
    Pipeline.RegionSeg pcfgs a (dats0 a V) () (defs₀ (F := F)) Variants.none Lc lvc 0 :=
  Pipeline.RegionSeg.ofHeldDHT pcfgs a (dats0 a V) () defs₀ Variants.none Lc lvc 0 (fun _ => 0) () osem0 ownSemFacts0 H0 Sr hS launch0
    (fun c => body_obligation0 a V c (hT c) (hc c)) (fun _ _ => rfl) (fun _ => rfl) (fun c => (dats0 a V 0 c).share_full fun _ => rfl)
    (fun c => by
      iintro -
      iapply (Transfers.MayWaits.zero (c : Thread nD τ) ())
      iempintro)
    V (fun c => W7 (V c))
    (fun c => by
      rw [show (dats0 a V 0 c).Φ 0 = Phi0 a V c from rfl]
      unfold Phi0
      iintro ⟨⟨H1, H2, H3, H4, -⟩, HT⟩
      isplitr [HT]
      · isplitl [H1]; · iexact H1
        isplitl [H2]; · iexact H2
        isplitl [H3]; · iexact H3
        iexact H4
      iexact HT)
    (fun c => .rfl) (fun _ => 0) ⟨fun _ _ _ => by simp [Lc], fun _ _ _ => Nat.le_refl _, fun c g i h => absurd h (Nat.lt_irrefl 0)⟩ Er
    (fun c w => rfl)
    hT
    (fun c w => by
      obtain rfl : w = (0 : Fin 1) := Subsingleton.elim (α := Fin 1) _ _
      exact (final0 a V c).trans (W7_v20 _).symm)
    (fun c k => (hT c k).trans (W7_of _ _ ((by decide : ∀ k : Fin 1, pre0.ref k ≠ main_v20) k)).symm)

end Cert.KernelIdeal.Hand

end
-- ==== Proof.KI.Body1.lean ====
/-
  The body of the logits call, run once: from its three input blocks and its two output blocks at anything, it leaves the
  chunk's running maxima in the first output and the smallest column attaining them in the second.
-/
module

public import proofs.«01_k».proof.Proof.KI.Setup
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UX ℕ

/-- The logits call's body, for any continuation. -/
theorem kernelRun1 (c : Dev nD) (i : grid1.Coords)
    (arg1 : Memref sig .tc .vmem S64x128 .f32) (harg1 : arg1.IsWhole)
    (arg2 : Memref sig .tc .vmem S128x8192 .f32) (harg2 : arg2.IsWhole)
    (arg3 : Memref sig .tc .vmem S1x8192 .f32) (harg3 : arg3.IsWhole)
    (arg4 : Memref sig .tc .vmem S64x128 .f32) (harg4 : arg4.IsWhole)
    (arg5 : Memref sig .tc .vmem S64x128 .i32) (harg5 : arg5.IsWhole)
    (v0 : Vec F S64x128 .f32) (v2 : Vec F S128x8192 .f32) (v4 : Vec F S1x8192 .f32)
    (K : PUnit → sProp 𝕄) :
    iprop(owns (c : Thread nD τ) arg1 fullShare v0 ∗ owns (c : Thread nD τ) arg2 fullShare v2
        ∗ owns (c : Thread nD τ) arg3 fullShare v4
        ∗ (∃ d, owns (c : Thread nD τ) arg4 fullShare d) ∗ (∃ d, owns (c : Thread nD τ) arg5 fullShare d)
        ∗ (iprop(owns (c : Thread nD τ) arg1 fullShare v0 ∗ owns (c : Thread nD τ) arg2 fullShare v2
              ∗ owns (c : Thread nD τ) arg3 fullShare v4
              ∗ owns (c : Thread nD τ) arg4 fullShare (k1_pay4 i v0 v2 v4)
              ∗ owns (c : Thread nD τ) arg5 fullShare (k1_pay5 (F := F) i v0 v2 v4)) -∗ K ⟨⟩))
      ⊢ wp frame (wpE (defs₀ (F := F)) Variants.none c none) Set.univ
          (cc1__partial_body i arg1 harg1 arg2 harg2 arg3 harg3 arg4 harg4 arg5 harg5) K := by
  simp only [cc1__partial_body_eq_skeleton]; unfold cc1__partial_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  sl_exec
  sl_step
  iapply Hk
  subst hf1 hf2 hf3
  rw [View.readAt_full, View.readAt_full, View.readAt_full]
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact View.read_writes_full ..
  · iexists _; isplitr; swap; · iexact H5
    ipureintro; exact View.read_writes_full ..

end Cert.KernelIdeal.Hand

end
-- ==== Proof.KI.Region1.lean ====
module

public import proofs.«01_k».proof.Proof.KI.Body1
public import proofs.«01_k».proof.Proof.KI.Region0
public import Idealize.ShloMosaic.Lib.Pipeline.DatRel
public import Idealize.ShloMosaic.Lib.Pipeline.ArrRel
public import Idealize.ShloMosaic.Lib.Pipeline.RegionArraysF
public import Idealize.ShloMosaic.Lib.Pipeline.ValueKit.Geometry
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UX ℕ

open Idealize.ShloMosaic.Pipeline (Dat RDat)

/-- The buffers read through the windows, the outputs' contents left open. -/
def datA (V : Valuation τ sig (Elt F)) (c : Dev nD) : Dat τ (Elt F) Unit ℕ UX ℕ cfg1 c where
  A w := V (Proc.devRef .tc (Pipeline.arrRef spec1 w))
  after _ _ := fun _ => Classical.arbitrary _
  Φ _ := iprop(emp)
  q _ := fullShare
  owed _ := 0

/-- The activations at a block, -/
def bk0 (V : Valuation τ sig (Elt F)) (t : Fin cfg1.N) : Vec F S64x128 .f32 := (datA V 0).blockOf 0 t
/-- the weight columns of a block, `d` past the last column, -/
def bk1 (V : Valuation τ sig (Elt F)) (t : Fin cfg1.N) (d : Vec F S128x8192 .f32) : Vec F S128x8192 .f32 := (datA V 0).fetched 1 t d
/-- and the biases of a block. -/
def bk2 (V : Valuation τ sig (Elt F)) (t : Fin cfg1.N) : Vec F S1x8192 .f32 := (datA V 0).blockOf 2 t

/-- The windows whose contents the rest of the weight block's buffer reaches: the two outputs. -/
def fgt1 : Fin 5 → Bool := fun | 3 => true | 4 => true | _ => false

/-- What a block may leave in an output window. -/
def Rl1 (V : Valuation τ sig (Elt F)) : (w : Fin cfg1.W) → Fin cfg1.N → ((cfg1.win w).block.Idx → Elt F (cfg1.win w).elt) → Prop
  | ⟨3, _⟩ => fun t X => ∃ d, X = k1_pay4 (grid1.coords t) (bk0 V t) (bk1 V t d) (bk2 V t)
  | ⟨4, _⟩ => fun t X => ∃ d, X = k1_pay5 (F := F) (grid1.coords t) (bk0 V t) (bk1 V t d) (bk2 V t)
  | _ => fun _ _ => True

/-- The two tables after the call: block by block what a block may leave. -/
def Rel1 (V : Valuation τ sig (Elt F)) (pv : Vec F S64x1664 .f32) (pi : Vec F S64x1664 .i32) : Prop :=
  (∀ t : Fin cfg1.N, ∃ d, ∀ j : S64x128.Idx, pv ((win1_3.blk t).view.emb j) = k1_pay4 (grid1.coords t) (bk0 V t) (bk1 V t d) (bk2 V t) j)
    ∧ ∀ t : Fin cfg1.N, ∃ d, ∀ j : S64x128.Idx, pi ((win1_4.blk t).view.emb j) = k1_pay5 (F := F) (grid1.coords t) (bk0 V t) (bk1 V t d) (bk2 V t) j

/-- The buffers after the call, its two tables at `pv` and `pi`. -/
def W8 (V : Valuation τ sig (Elt F)) (pv : Vec F S64x1664 .f32) (pi : Vec F S64x1664 .i32) : Valuation τ sig (Elt F) :=
  Function.update (Function.update V main_v21_0 pv) main_v21_1 pi
theorem W8_of (V : Valuation τ sig (Elt F)) (pv pi) (r : Ref sig .tc) (h : r ≠ main_v21_0) (h' : r ≠ main_v21_1) : W8 V pv pi r = V r :=
  (Function.update_of_ne (StableHlo.devRef_ne_of_ne h') _ _).trans (Function.update_of_ne (StableHlo.devRef_ne_of_ne h) _ _)
theorem W8_1 (V : Valuation τ sig (Elt F)) (pv pi) : W8 V pv pi main_v21_1 = pi := Function.update_self ..
theorem W8_0 (V : Valuation τ sig (Elt F)) (pv pi) : W8 V pv pi main_v21_0 = pv :=
  (Function.update_of_ne (StableHlo.devRef_ne_of_ne (by decide)) _ _).trans (Function.update_self ..)

variable (a : (p : Fin 3) → (pcfgs (F := F) p).Adm) (V : Dev nD → Valuation τ sig (Elt F))

def dat1 (c : Dev nD) : Dat τ (Elt F) Unit ℕ UX ℕ cfg1 c where
  A w := V c (Proc.devRef .tc (Pipeline.arrRef spec1 w))
  after
    | ⟨0, _⟩ => fun t => bk0 (V c) t
    | ⟨1, _⟩ => fun t => bk1 (V c) t (fun _ => Scalar.ofBits .f32 0#32)
    | ⟨2, _⟩ => fun t => bk2 (V c) t
    | _ => fun _ _ => Classical.arbitrary _
  Φ _ := iprop(Pipeline.scopedRest spec1 c ∗ (∃ r, prngReg c r))
  q _ := fullShare
  owed _ := 0

theorem before1_0 (c : Dev nD) (t : Fin cfg1.N) (d) : (dat1 V c).before 0 t d = bk0 (V c) t := by
  rw [(dat1 V c).before_in_eq_fetched 0 rfl (fun _ => rfl) (fun _ _ _ => rfl) (fun _ => by obtain rfl := Subsingleton.elim c 0; rfl) t d]
  obtain rfl := Subsingleton.elim c 0
  rfl
theorem before1_1 (c : Dev nD) (t : Fin cfg1.N) (d) : (dat1 V c).before 1 t d = bk1 (V c) t d := by
  rw [(dat1 V c).before_fetched 1 t (fetch1_1 t) d]
  obtain rfl := Subsingleton.elim c 0
  rfl
theorem before1_2 (c : Dev nD) (t : Fin cfg1.N) (d) : (dat1 V c).before 2 t d = bk2 (V c) t := by
  rw [(dat1 V c).before_fetched 2 t (fetch1_2 t) d]
  obtain rfl := Subsingleton.elim c 0
  rfl
theorem left1_1 (c : Dev nD) (t : Fin cfg1.N) (d) :
    (cfg1.win 1).fill (grid1.coords t) d ((cfg1.win 1).cut (grid1.coords t) ((dat1 V c).after 1 t)) = bk1 (V c) t d := by
  obtain rfl := Subsingleton.elim c 0
  exact congrArg ((cfg1.win 1).fill (grid1.coords t) d) ((datA (V 0) 0).cut_fetched 1 t _)

/-- A point's body, from what it is handed to what it leaves. -/
theorem sound_body1 (c : Dev nD) (t : Fin cfg1.N) (A B : sProp 𝕄)
    (m0 : Memref sig .tc .vmem S64x128 .f32) (k0 : m0.IsWhole) (m1 : Memref sig .tc .vmem S128x8192 .f32) (k1 : m1.IsWhole)
    (m2 : Memref sig .tc .vmem S1x8192 .f32) (k2 : m2.IsWhole) (m3 : Memref sig .tc .vmem S64x128 .f32) (k3 : m3.IsWhole)
    (m4 : Memref sig .tc .vmem S64x128 .i32) (k4 : m4.IsWhole) (P3 : Vec F S64x128 .f32 → Prop) (P4 : Vec F S64x128 .i32 → Prop)
    {α β : Type} {b0 : α → Vec F S64x128 .f32} {b2 : β → Vec F S1x8192 .f32} (h0 : ∀ d, b0 d = bk0 (V c) t) (h2 : ∀ d, b2 d = bk2 (V c) t)
    {b1 : Vec F S128x8192 .f32 → Vec F S128x8192 .f32} (h1 : ∀ d, b1 d = bk1 (V c) t d)
    {l1 : Vec F S128x8192 .f32 → Vec F S128x8192 .f32} (hl : ∀ d, l1 d = bk1 (V c) t d) :
    (iprop(A ∗ B ∗ (∃ d, owns (c : Thread nD τ) m0 fullShare (b0 d)) ∗ (∃ d, owns (c : Thread nD τ) m1 fullShare (b1 d))
        ∗ (∃ d, owns (c : Thread nD τ) m2 fullShare (b2 d)) ∗ (∃ Y, ⌜P3 Y⌝ ∗ owns (c : Thread nD τ) m3 fullShare Y)
        ∗ (∃ Y, ⌜P4 Y⌝ ∗ owns (c : Thread nD τ) m4 fullShare Y)) : sProp 𝕄)
      ⊢ wp frame (wpE (defs₀ (F := F)) Variants.none (c : Thread nD τ) none) Set.univ
        (cc1__partial_body (F := F) (grid1.coords t) m0 k0 m1 k1 m2 k2 m3 k3 m4 k4)
        (fun _ => iprop(A ∗ B ∗ owns (c : Thread nD τ) m0 fullShare (bk0 (V c) t) ∗ (∃ d, owns (c : Thread nD τ) m1 fullShare (l1 d))
          ∗ owns (c : Thread nD τ) m2 fullShare (bk2 (V c) t) ∗ (∃ X, ⌜Rl1 (V c) 3 t X⌝ ∗ owns (c : Thread nD τ) m3 fullShare X)
          ∗ (∃ X, ⌜Rl1 (V c) 4 t X⌝ ∗ owns (c : Thread nD τ) m4 fullShare X))) := by
  simp only [h0, h1, h2, hl]
  iintro ⟨HA, HB, ⟨%d0, H0⟩, ⟨%d1, H1⟩, ⟨%d2, H2⟩, ⟨%Y3, -, H3⟩, ⟨%Y4, -, H4⟩⟩
  iapply (kernelRun1 c (grid1.coords t) m0 k0 m1 k1 m2 k2 m3 k3 m4 k4 (bk0 (V c) t) (bk1 (V c) t d1) (bk2 (V c) t) _)
  isplitl [H0]; · iexact H0
  isplitl [H1]; · iexact H1
  isplitl [H2]; · iexact H2
  isplitl [H3]; · iexists Y3; iexact H3
  isplitl [H4]; · iexists Y4; iexact H4
  iintro ⟨H0, H1, H2, H3, H4⟩
  isplitl [HA]; · iexact HA
  isplitl [HB]; · iexact HB
  isplitl [H0]; · iexact H0
  isplitl [H1]; · iexists d1; iexact H1
  isplitl [H2]; · iexact H2
  isplitl [H3]
  · iexists _; isplitr; swap; · iexact H3
    ipureintro; exact ⟨d1, rfl⟩
  · iexists _; isplitr; swap; · iexact H4
    ipureintro; exact ⟨d1, rfl⟩

/-- The points' body, from what the pipeline hands it to what it takes back. -/
theorem body_obligation1 (c : Dev nD) :
    Pipeline.BodyObligationRel (dat1 V c) (defs₀ (F := F)) Variants.none () Set.univ fgt1 (Rl1 (V c)) := fun t => by
  have h := sound_body1 V c t ((dat1 V c).Φ t.castSucc) ((dat1 V c).owesAt () t.castSucc) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4))
    (((dat1 V c).toRRel fgt1 (Rl1 (V c))).Finds 3 t) (((dat1 V c).toRRel fgt1 (Rl1 (V c))).Finds 4 t)
    (before1_0 V c t) (before1_2 V c t) (before1_1 V c t) (left1_1 V c t)
  exact triple_restated h rfl (sep_mono .rfl (sep_mono .rfl (Entails.of_eq (bigSep_W1 _)))) fun _ => sep_mono .rfl (sep_mono .rfl (by rw [bigSep_W1]; exact .rfl))

def rdats1 : (p : Fin 3) → (c : Dev nD) → RDat τ (Elt F) Unit ℕ UX ℕ (Pipeline.pin pcfgs a p) c
  | ⟨0, _⟩, c => (dumDat c).toR
  | ⟨1, _⟩, c => (dat1 V c).toRRel fgt1 (Rl1 (V c))
  | ⟨_ + 2, _⟩, c => (dumDat c).toR

/-- What the windows' arrays hold after the call. -/
theorem exact1 (c : Dev nD) (G : (w : Fin cfg1.W) → Buf (Elt F) ((cfg1.win w).arr.view.loc (c : Thread nD τ)))
    (hG : ∀ w, ((dat1 V c).toRRel fgt1 (Rl1 (V c))).ArrAt w cfg1.N (G w)) :
    Rel1 (V c) (G 3) (G 4) ∧ ∀ w : Fin 5, G w = W8 (V c) (G 3) (G 4) (Proc.devRef .tc (Pipeline.arrRef spec1 w)) := by
  obtain ⟨after, hL, hA⟩ := RDat.ArrAt.exists_exact_all hG
  refine ⟨⟨fun t => ?_, fun t => ?_⟩, fun w => ?_⟩
  · obtain ⟨d, hd⟩ := Dat.toRRel_leaves (dat1 V c) (fgt := fgt1) (Rl := Rl1 (V c)) (w := 3) rfl (hL 3 t t.isLt (flush1_3 t))
    refine ⟨d, fun j => ?_⟩
    rw [hA 3]
    refine (Dat.arrAt_emb_eq_flushed _ 3 (Pipeline.Window.hdisj_of_index_inj win1_3 (by decide +kernel)) t (flush1_3 t) j).trans ?_
    exact congrFun hd j
  · obtain ⟨d, hd⟩ := Dat.toRRel_leaves (dat1 V c) (fgt := fgt1) (Rl := Rl1 (V c)) (w := 4) rfl (hL 4 t t.isLt (flush1_4 t))
    refine ⟨d, fun j => ?_⟩
    rw [hA 4]
    refine (Dat.arrAt_emb_eq_flushed _ 4 (Pipeline.Window.hdisj_of_index_inj win1_4 (by decide +kernel)) t (flush1_4 t) j).trans ?_
    exact congrFun hd j
  · match w with
    | ⟨0, _⟩ => exact ((hA 0).trans (Dat.arrAt_in _ 0 rfl _)).trans (W8_of _ _ _ main_v20 (by decide) (by decide)).symm
    | ⟨1, _⟩ => exact ((hA 1).trans (Dat.arrAt_in _ 1 rfl _)).trans (W8_of _ _ _ main_arg2 (by decide) (by decide)).symm
    | ⟨2, _⟩ => exact ((hA 2).trans (Dat.arrAt_in _ 2 rfl _)).trans (W8_of _ _ _ main_v19 (by decide) (by decide)).symm
    | ⟨3, _⟩ => exact (W8_0 _ _ _).symm
    | ⟨4, _⟩ => exact (W8_1 _ _ _).symm

def dats1 : (p : Fin 3) → (c : Dev nD) → Dat τ (Elt F) Unit ℕ UX ℕ (Pipeline.pin pcfgs a p) c
  | ⟨0, _⟩, c => dumDat c
  | ⟨1, _⟩, c => dat1 V c
  | ⟨_ + 2, _⟩, c => dumDat c

include a in
theorem arrays1_held (c : Dev nD) (G : (w : Fin cfg1.W) → Buf (Elt F) ((cfg1.win w).arr.view.loc (c : Thread nD τ))) (Wc : Valuation τ sig (Elt F))
    (hG : ∀ w : Fin 5, G w = Wc (Proc.devRef .tc (Pipeline.arrRef spec1 w))) :
    ((dat1 V c).arrays G : sProp 𝕄) = StableHlo.held (c.tc : Thread nD τ) (Pipeline.arrRefs spec1) Wc :=
  Pipeline.arrays_held pcfgs a (dats1 a V) 1 launch1 c ((dat1 V c).share_full fun _ => rfl) G Wc hG

theorem arraysAt1 (c : Dev nD) : (((dat1 V c).toRRel fgt1 (Rl1 (V c))).arraysAt cfg1.N : sProp 𝕄)
    ⊢ iprop(∃ G : (w : Fin cfg1.W) → Buf (Elt F) ((cfg1.win w).arr.view.loc (c.tc : Thread nD τ)),
      ⌜∀ w, ((dat1 V c).toRRel fgt1 (Rl1 (V c))).ArrAt w cfg1.N (G w)⌝ ∗ (dat1 V c).arrays G) := by
  unfold RDat.arraysAt Dat.arrays
  refine (BI.bigSep_exists_pi Finset.univ _).trans ?_
  iintro ⟨%A, H⟩
  ihave H' := (BI.bigSep_pure_sep Finset.univ (fun w => ((dat1 V c).toRRel fgt1 (Rl1 (V c))).ArrAt w cfg1.N (A w)) _) $$ H
  icases H' with ⟨%hA, H⟩
  iexists A
  isplitr
  · ipureintro; exact fun w => hA w (Finset.mem_univ w)
  iexact H

/-- The partial-argmax call's segment, entered at the valuation `V`: it leaves its tables at contents that meet `Rel1`. -/
def reg1 (Er : Dev nD → sProp 𝕄) :
    RDat.RegionSeg pcfgs a (rdats1 a V) () (defs₀ (F := F)) Variants.none Lc lvc 1 where
  win := (launch1 (F := F)).to₀.win
  block_pos := (launch1 (F := F)).to₀.block_pos
  stage_whole := (launch1 (F := F)).to₀.stage_whole
  K := PEmpty
  osem := fun k => k.elim
  ho := Pipeline.OwnSemFacts.none _
  hbody c := (body_obligation1 V c).toRRel
  hwaits c := RDat.cellsWaits_of_cut (Pipeline.pin pcfgs a) (rdats1 a V) () 1 c 0 0 (fun _ => rfl)
    (fun _ _ => by simp [Lc]) (fun _ _ => Nat.le_refl _) (fun g i h => absurd h (Nat.lt_irrefl 0))
  pre c := iprop(StableHlo.held (c.tc : Thread nD τ) (Pipeline.arrRefs spec1) (V c) ∗ (∃ r, prngReg c r) ∗ Er c
    ∗ ∃ Wd, owes (c : Thread nD τ) (0 : CellTallies nD τ sig Unit) Wd)
  post c := iprop(∃ pv pi, ⌜Rel1 (V c) pv pi⌝ ∗ StableHlo.held (c.tc : Thread nD τ) (Pipeline.arrRefs spec1) (W8 (V c) pv pi) ∗ (∃ r, prngReg c r) ∗ Er c
    ∗ ∃ Wd, owes (c : Thread nD τ) (0 : CellTallies nD τ sig Unit) Wd)
  X c := iprop(∃ r, prngReg c r)
  Y c := iprop(∃ r, prngReg c r)
  Z c := Er c
  hentry c := by
    show _ ⊢ |={Set.univ}=> iprop((dat1 V c).arrays (dat1 V c).A ∗ Pipeline.prefHeld (pcfgs (F := F) 1).pre c (fun _ => fullShare) (a 1).1
        ∗ (dat1 V c).owesAt () 0 ∗ _ ∗ _)
    rw [Pipeline.prefHeld_of_none _ (show (pcfgs (F := F) 1).pre.K = 0 from rfl), arrays1_held a V c (dat1 V c).A (V c) (fun _ => rfl)]
    iintro ⟨⟨Ha, Hp, Hx, HO⟩, -, -⟩
    imodintro
    isplitl [Ha]; · iexact Ha
    isplitr; · iempintro
    isplitl [HO]
    · unfold Dat.owesAt Pipeline.owesWithin Dat.bound
      icases HO with ⟨%Wd, HO⟩; iexists Wd; isplitr; · ipureintro; exact fun _ _ => Or.inl trivial
      iexact HO
    isplitl [Hp]; · iexact Hp
    iexact Hx
  hin c := (show _ ⊢ iprop(Pipeline.scopedRest spec1 c ∗ (∃ r, prngReg c r)) from by
    iintro ⟨Hp, -, Hr⟩
    isplitl [Hr]; · iexact Hr
    iexact Hp)
  hout c := (show iprop(Pipeline.scopedRest spec1 c ∗ (∃ r, prngReg c r)) ⊢ _ from by
    iintro ⟨Hr, Hp⟩
    isplitl [Hp]; · iexact Hp
    isplitr [Hr]
    · rw [Pipeline.ownSems0_none]; iempintro
    iexact Hr)
  hexit c := by
    show iprop(((dat1 V c).toRRel fgt1 (Rl1 (V c))).arraysAt cfg1.N ∗ (dat1 V c).owesAt () (Fin.last cfg1.N) ∗ _ ∗ _) ⊢ _
    iintro ⟨Ha, HO, Hp, Hx⟩
    ihave Ha := (arraysAt1 V c) $$ Ha
    icases Ha with ⟨%G, %hG, Ha⟩
    imodintro
    iexists (G 3 : Vec F S64x1664 .f32), (G 4 : Vec F S64x1664 .i32)
    ihave Ha := (Entails.of_eq (arrays1_held a V c G (W8 (V c) (G 3) (G 4)) (exact1 V c G hG).2)) $$ Ha
    isplitr; · ipureintro; exact (exact1 V c G hG).1
    isplitl [Ha]; · iexact Ha
    isplitl [Hp]; · iexact Hp
    isplitl [Hx]; · iexact Hx
    unfold Dat.owesAt Pipeline.owesWithin
    icases HO with ⟨%Wd, -, HO⟩; iexists Wd; iexact HO

end Cert.KernelIdeal.Hand

end
-- ==== Proof.KI.Body2.lean ====
/-
  The body of the merge call, run once: from the two running tables, the current tokens, the buffer and the two
  words of the table, it leaves the next tokens, the new buffer and the new step.
-/
module

public import proofs.«01_k».proof.Proof.KI.Setup
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UX ℕ

/-- The two words of the merge call's table. -/
def tcol (tb : Vec F S2 .i32) : Elt F .i32 := tb (fun a => ⟨0, (by decide : ∀ a : Fin S2.rank, 0 < S2.size a) a⟩)
def tbeg (tb : Vec F S2 .i32) : Elt F .i32 := tb (fun a => ⟨1, (by decide : ∀ a : Fin S2.rank, 1 < S2.size a) a⟩)

/-- What the merge call stores: the tokens, the buffer, the step. -/
def mergeTok (cur : Vec F S64x1 .i32) (pv : Vec F S64x1664 .f32) (pi : Vec F S64x1664 .i32) : IVec S64x1 32 :=
  k2_pay3 pv pi cur
def mergeBuf (tb : Vec F S2 .i32) (cur : Vec F S64x1 .i32) (pv : Vec F S64x1664 .f32) (pi : Vec F S64x1664 .i32)
    (gen : Vec F S64x2047 .f32) : FVec F S64x2047 .f32 :=
  k2_pay1 (k2_pay4 (tbeg tb) gen) (k2_pay5 (F := F) (tcol tb)) (k2_pay6 pv pi cur) (Scalar.ofBits .f32 0x00000000#32)
def mergeStep (tb : Vec F S2 .i32) : FVec F S1 .f32 := fun _ => k2_pay2 (tcol tb)

/-- The merge call's body, for any continuation. -/
theorem kernelRun2 (c : Dev nD) (i : grid2.Coords)
    (arg1 : Memref sig .tc .smem S2 .i32) (harg1 : arg1.IsWhole)
    (arg2 : Memref sig .tc .vmem S64x1 .i32) (harg2 : arg2.IsWhole)
    (arg3 : Memref sig .tc .vmem S64x1664 .f32) (harg3 : arg3.IsWhole)
    (arg4 : Memref sig .tc .vmem S64x1664 .i32) (harg4 : arg4.IsWhole)
    (arg5 : Memref sig .tc .vmem S64x2047 .f32) (harg5 : arg5.IsWhole)
    (arg6 : Memref sig .tc .vmem S64x1 .i32) (harg6 : arg6.IsWhole)
    (arg7 : Memref sig .tc .vmem S64x2047 .f32) (harg7 : arg7.IsWhole)
    (arg8 : Memref sig .tc .smem S1 .f32) (harg8 : arg8.IsWhole)
    (tb : Vec F S2 .i32) (cur : Vec F S64x1 .i32) (pv : Vec F S64x1664 .f32) (pi : Vec F S64x1664 .i32)
    (gen : Vec F S64x2047 .f32)
    (K : PUnit → sProp 𝕄) :
    iprop(owns (c : Thread nD τ) arg1 fullShare tb ∗ owns (c : Thread nD τ) arg2 fullShare cur
        ∗ owns (c : Thread nD τ) arg3 fullShare pv ∗ owns (c : Thread nD τ) arg4 fullShare pi
        ∗ owns (c : Thread nD τ) arg5 fullShare gen
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare tb ∗ owns (c : Thread nD τ) arg2 fullShare cur
              ∗ owns (c : Thread nD τ) arg3 fullShare pv ∗ owns (c : Thread nD τ) arg4 fullShare pi
              ∗ owns (c : Thread nD τ) arg5 fullShare gen
              ∗ owns (c : Thread nD τ) arg6 fullShare (mergeTok cur pv pi)
              ∗ owns (c : Thread nD τ) arg7 fullShare (mergeBuf tb cur pv pi gen)
              ∗ owns (c : Thread nD τ) arg8 fullShare (mergeStep tb)) -∗ K ⟨⟩))
      ⊢ wp frame (wpE (defs₀ (F := F)) Variants.none c none) Set.univ
          (cc2__merge_body i arg1 harg1 arg2 harg2 arg3 harg3 arg4 harg4 arg5 harg5 arg6 harg6 arg7 harg7 arg8 harg8) K := by
  simp only [cc2__merge_body_eq_skeleton]; unfold cc2__merge_body_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  sl_exec
  sl_step
  iapply Hk
  subst hf1 hf2 hf3 hf4 hf5
  have hr : kernelRun2.sl.r c arg1 f1 = tcol (View.read (Elt F) arg1.view f1) := by
    unfold kernelRun2.sl.r tcol
    exact congrArg (View.read (Elt F) arg1.view f1) (funext fun a => Fin.ext (by fin_cases a; rfl))
  have hr1 : kernelRun2.sl.r_1 c arg1 f1 = tbeg (View.read (Elt F) arg1.view f1) := by
    unfold kernelRun2.sl.r_1 tbeg
    exact congrArg (View.read (Elt F) arg1.view f1) (funext fun a => Fin.ext (by fin_cases a; rfl))
  rw [hr, hr1, View.readAt_full arg2.view f2, View.readAt_full arg3.view f3, View.readAt_full arg4.view f4,
    View.readAt_full arg5.view f5]
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    exact View.read_writes_full ..
  isplitl [H7]
  · iexists _; isplitr; swap; · iexact H7
    ipureintro
    exact View.read_writes_full arg7.view f7 _ _ _
  · iexists _; isplitr; swap; · iexact H8
    ipureintro
    exact View.read_writes_full arg8.view f8 _ _ _

end Cert.KernelIdeal.Hand

end
-- ==== Proof.KI.Region2.lean ====
module

public import proofs.«01_k».proof.Proof.KI.Body2
public import proofs.«01_k».proof.Proof.KI.Region0
public import Idealize.ShloMosaic.Lib.Pipeline.RegionArraysT
public import Idealize.ShloMosaic.Lib.Pipeline.ValueKit.Geometry
public import Idealize.ShloMosaic.Lib.Pipeline.FrameBody
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UX ℕ

open Idealize.ShloMosaic.Pipeline (Dat)

/-- The buffers after the merge call. -/
def W10 (V : Valuation τ sig (Elt F)) : Valuation τ sig (Elt F) :=
  Function.update (Function.update (Function.update V
    main_v25_0 (mergeTok (V main_v17) (V main_v21_0) (V main_v21_1)))
    main_v25_1 (mergeBuf (V main_v24) (V main_v17) (V main_v21_0) (V main_v21_1) (V main_arg4)))
    main_v25_2 (mergeStep (V main_v24))
theorem W10_of (V : Valuation τ sig (Elt F)) (r : Ref sig .tc) (h : r ≠ main_v25_0) (h' : r ≠ main_v25_1) (h'' : r ≠ main_v25_2) : W10 V r = V r :=
  ((Function.update_of_ne (StableHlo.devRef_ne_of_ne h'') _ _).trans (Function.update_of_ne (StableHlo.devRef_ne_of_ne h') _ _)).trans
    (Function.update_of_ne (StableHlo.devRef_ne_of_ne h) _ _)
theorem W10_2 (V : Valuation τ sig (Elt F)) : W10 V main_v25_2 = mergeStep (V main_v24) := Function.update_self ..
theorem W10_1 (V : Valuation τ sig (Elt F)) : W10 V main_v25_1 = mergeBuf (V main_v24) (V main_v17) (V main_v21_0) (V main_v21_1) (V main_arg4) :=
  (Function.update_of_ne (StableHlo.devRef_ne_of_ne (by decide)) _ _).trans (Function.update_self ..)
theorem W10_0 (V : Valuation τ sig (Elt F)) : W10 V main_v25_0 = mergeTok (V main_v17) (V main_v21_0) (V main_v21_1) :=
  ((Function.update_of_ne (StableHlo.devRef_ne_of_ne (by decide)) _ _).trans (Function.update_of_ne (StableHlo.devRef_ne_of_ne (by decide)) _ _)).trans
    (Function.update_self ..)

variable (a : (p : Fin 3) → (pcfgs (F := F) p).Adm) (V : Dev nD → Valuation τ sig (Elt F))

/-- What the merge call's point needs beside its windows. -/
def Phi2 (c : Dev nD) : sProp 𝕄 :=
  iprop(iprop(Pipeline.scopedRest spec2 c ∗ (∃ r, prngReg c r)) ∗ Pipeline.tablesAt pcfgs a 2 c)

def dat2 (c : Dev nD) : Dat τ (Elt F) Unit ℕ UX ℕ (Pipeline.pin pcfgs a 2) c where
  A w := V c (Proc.devRef .tc (Pipeline.arrRef spec2 w))
  after
    | ⟨0, _⟩ => fun t => V c main_v17
    | ⟨1, _⟩ => fun t => V c main_v21_0
    | ⟨2, _⟩ => fun t => V c main_v21_1
    | ⟨3, _⟩ => fun t => V c main_arg4
    | ⟨4, _⟩ => fun t => mergeTok (V c main_v17) (V c main_v21_0) (V c main_v21_1)
    | ⟨5, _⟩ => fun t => mergeBuf (V c main_v24) (V c main_v17) (V c main_v21_0) (V c main_v21_1) (V c main_arg4)
    | ⟨6, _⟩ => fun t => mergeStep (V c main_v24)
  Φ _ := Phi2 a c
  q _ := fullShare
  owed _ := 0

def dats2 : (p : Fin 3) → (c : Dev nD) → Dat τ (Elt F) Unit ℕ UX ℕ (Pipeline.pin pcfgs a p) c
  | ⟨0, _⟩, c => dumDat c
  | ⟨1, _⟩, c => dumDat c
  | ⟨2, _⟩, c => dat2 a V c

theorem tables2_eq (c : Dev nD) (hT : ∀ k, (a 2).1 k = V c (Proc.devRef .tc (pre2.ref k))) :
    (Pipeline.tablesAt pcfgs a 2 c : sProp 𝕄) = owns (c : Thread nD τ) (Memref.whole main_v24) fullShare (V c main_v24) := by
  unfold Pipeline.tablesAt Pipeline.prefHeld
  refine (bigSep_univ_eq_bigSepL [(0 : Fin 1)] (by decide) (by decide) _).trans ?_
  show iprop((c.tc : Thread nD τ).loc main_v24 ↦{fullShare} (a 2).1 0) = _
  rw [hT 0, owns_whole]; rfl

theorem before2_0 (c : Dev nD) (d) : (dat2 a V c).before 0 t2_0 d = V c main_v17 := by
  refine ((dat2 a V c).before_fetched 0 t2_0 rfl d).trans ?_
  funext j
  show V c main_v17 _ = V c main_v17 j
  refine congrArg (V c main_v17) (funext fun x => Fin.ext ?_)
  have hx : ((Pipeline.pin pcfgs a 2).win 0).index t2_0 x = 0 := by
    revert x; show ∀ x : Fin 2, ((Pipeline.pin pcfgs a 2).win 0).index t2_0 x = 0
    intro x; fin_cases x <;> rfl
  exact Pipeline.Window.rect_emb_val_of_index_zero ((Pipeline.pin pcfgs a 2).win 0) t2_0 x hx _
theorem before2_1 (c : Dev nD) (d) : (dat2 a V c).before 1 t2_0 d = V c main_v21_0 := by
  refine ((dat2 a V c).before_fetched 1 t2_0 rfl d).trans ?_
  funext j
  show V c main_v21_0 _ = V c main_v21_0 j
  refine congrArg (V c main_v21_0) (funext fun x => Fin.ext ?_)
  have hx : ((Pipeline.pin pcfgs a 2).win 1).index t2_0 x = 0 := by
    revert x; show ∀ x : Fin 2, ((Pipeline.pin pcfgs a 2).win 1).index t2_0 x = 0
    intro x; fin_cases x <;> rfl
  exact Pipeline.Window.rect_emb_val_of_index_zero ((Pipeline.pin pcfgs a 2).win 1) t2_0 x hx _
theorem before2_2 (c : Dev nD) (d) : (dat2 a V c).before 2 t2_0 d = V c main_v21_1 := by
  refine ((dat2 a V c).before_fetched 2 t2_0 rfl d).trans ?_
  funext j
  show V c main_v21_1 _ = V c main_v21_1 j
  refine congrArg (V c main_v21_1) (funext fun x => Fin.ext ?_)
  have hx : ((Pipeline.pin pcfgs a 2).win 2).index t2_0 x = 0 := by
    revert x; show ∀ x : Fin 2, ((Pipeline.pin pcfgs a 2).win 2).index t2_0 x = 0
    intro x; fin_cases x <;> rfl
  exact Pipeline.Window.rect_emb_val_of_index_zero ((Pipeline.pin pcfgs a 2).win 2) t2_0 x hx _
theorem before2_3 (c : Dev nD) (d) : (dat2 a V c).before 3 t2_0 d = V c main_arg4 := by
  refine ((dat2 a V c).before_fetched 3 t2_0 rfl d).trans ?_
  funext j
  show V c main_arg4 _ = V c main_arg4 j
  refine congrArg (V c main_arg4) (funext fun x => Fin.ext ?_)
  have hx : ((Pipeline.pin pcfgs a 2).win 3).index t2_0 x = 0 := by
    revert x; show ∀ x : Fin 2, ((Pipeline.pin pcfgs a 2).win 3).index t2_0 x = 0
    intro x; fin_cases x <;> rfl
  exact Pipeline.Window.rect_emb_val_of_index_zero ((Pipeline.pin pcfgs a 2).win 3) t2_0 x hx _

/-- The point's body, from what it is handed to what it leaves. -/
theorem sound_body2 (c : Dev nD) (hT : ∀ k, (a 2).1 k = V c (Proc.devRef .tc (pre2.ref k))) (B : sProp 𝕄)
    (m0 : Memref sig .tc .vmem S64x1 .i32) (k0 : m0.IsWhole) (m1 : Memref sig .tc .vmem S64x1664 .f32) (k1 : m1.IsWhole)
    (m2 : Memref sig .tc .vmem S64x1664 .i32) (k2 : m2.IsWhole) (m3 : Memref sig .tc .vmem S64x2047 .f32) (k3 : m3.IsWhole)
    (m4 : Memref sig .tc .vmem S64x1 .i32) (k4 : m4.IsWhole) (m5 : Memref sig .tc .vmem S64x2047 .f32) (k5 : m5.IsWhole)
    (m6 : Memref sig .tc .smem S1 .f32) (k6 : m6.IsWhole)
    {α₀ α₁ α₂ α₃ α₄ α₅ α₆ : Type} {b0 : α₀ → Vec F S64x1 .i32} {b1 : α₁ → Vec F S64x1664 .f32} {b2 : α₂ → Vec F S64x1664 .i32}
    {b3 : α₃ → Vec F S64x2047 .f32} {b4 : α₄ → Vec F S64x1 .i32} {b5 : α₅ → Vec F S64x2047 .f32} {b6 : α₆ → Vec F S1 .f32}
    (h0 : ∀ d, b0 d = V c main_v17) (h1 : ∀ d, b1 d = V c main_v21_0) (h2 : ∀ d, b2 d = V c main_v21_1) (h3 : ∀ d, b3 d = V c main_arg4) :
    (iprop(Phi2 a c ∗ B ∗ (∃ d, owns (c : Thread nD τ) m0 fullShare (b0 d)) ∗ (∃ d, owns (c : Thread nD τ) m1 fullShare (b1 d))
        ∗ (∃ d, owns (c : Thread nD τ) m2 fullShare (b2 d)) ∗ (∃ d, owns (c : Thread nD τ) m3 fullShare (b3 d))
        ∗ (∃ d, owns (c : Thread nD τ) m4 fullShare (b4 d)) ∗ (∃ d, owns (c : Thread nD τ) m5 fullShare (b5 d))
        ∗ (∃ d, owns (c : Thread nD τ) m6 fullShare (b6 d))) : sProp 𝕄)
      ⊢ wp frame (wpE (defs₀ (F := F)) Variants.none (c : Thread nD τ) none) Set.univ
        (cc2__merge_body (F := F) (grid2.coords t2_0) (Memref.whole main_v24) (Memref.isWhole_whole main_v24) m0 k0 m1 k1 m2 k2 m3 k3 m4 k4 m5 k5 m6 k6)
        (fun _ => iprop(Phi2 a c ∗ B ∗ owns (c : Thread nD τ) m0 fullShare (V c main_v17) ∗ owns (c : Thread nD τ) m1 fullShare (V c main_v21_0)
          ∗ owns (c : Thread nD τ) m2 fullShare (V c main_v21_1) ∗ owns (c : Thread nD τ) m3 fullShare (V c main_arg4)
          ∗ owns (c : Thread nD τ) m4 fullShare (mergeTok (V c main_v17) (V c main_v21_0) (V c main_v21_1))
          ∗ owns (c : Thread nD τ) m5 fullShare (mergeBuf (V c main_v24) (V c main_v17) (V c main_v21_0) (V c main_v21_1) (V c main_arg4))
          ∗ owns (c : Thread nD τ) m6 fullShare (mergeStep (V c main_v24)))) := by
  unfold Phi2
  rw [tables2_eq a V c hT]
  simp only [h0, h1, h2, h3]
  iintro ⟨⟨HS, HT⟩, HB, ⟨%d0, H0⟩, ⟨%d1, H1⟩, ⟨%d2, H2⟩, ⟨%d3, H3⟩, ⟨%d4, H4⟩, ⟨%d5, H5⟩, ⟨%d6, H6⟩⟩
  iapply (kernelRun2 c (grid2.coords t2_0) (Memref.whole main_v24) (Memref.isWhole_whole main_v24) m0 k0 m1 k1 m2 k2 m3 k3 m4 k4 m5 k5 m6 k6
    (V c main_v24) (V c main_v17) (V c main_v21_0) (V c main_v21_1) (V c main_arg4) _)
  isplitl [HT]; · iexact HT
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨HT, H0, H1, H2, H3, H4, H5, H6⟩
  isplitl [HS HT]
  · isplitl [HS]; · iexact HS
    iexact HT
  isplitl [HB]; · iexact HB
  isplitl [H0]; · iexact H0
  isplitl [H1]; · iexact H1
  isplitl [H2]; · iexact H2
  isplitl [H3]; · iexact H3
  isplitl [H4]; · iexact H4
  isplitl [H5]; · iexact H5
  iexact H6

/-- The point's body, from what the pipeline hands it to what it takes back. -/
theorem body_obligation2 (c : Dev nD) (hT : ∀ k, (a 2).1 k = V c (Proc.devRef .tc (pre2.ref k))) :
    Pipeline.BodyObligationLoose (dats2 a V 2 c) (defs₀ (F := F)) Variants.none () Set.univ := fun t => by
  obtain rfl := fin_N2 t
  have h := sound_body2 a V c hT ((dat2 a V c).owesAt () t2_0.castSucc)
    (Memref.whole cc2_stg0_0) (Memref.isWhole_whole _) (Memref.whole cc2_stg1_0) (Memref.isWhole_whole _) (Memref.whole cc2_stg2_0) (Memref.isWhole_whole _)
    (Memref.whole cc2_stg3_0) (Memref.isWhole_whole _) (Memref.whole cc2_stg4_0) (Memref.isWhole_whole _) (Memref.whole cc2_stg5_0) (Memref.isWhole_whole _)
    (Memref.whole cc2_stg6_0) (Memref.isWhole_whole _) (b4 := (dat2 a V c).before 4 t2_0) (b5 := (dat2 a V c).before 5 t2_0) (b6 := (dat2 a V c).before 6 t2_0)
    (before2_0 a V c) (before2_1 a V c) (before2_2 a V c) (before2_3 a V c)
  exact triple_restated h rfl (sep_mono .rfl (sep_mono .rfl (Entails.of_eq (bigSep_W2 _)))) fun _ => sep_mono .rfl (sep_mono .rfl (by rw [bigSep_W2]; exact .rfl))

theorem wholeAt2 (w : Fin 7) (hw : 4 ≤ w.val) : ((Pipeline.pin pcfgs a 2).win w).WholeAt t2_0 := by
  match w, hw with
  | ⟨4, _⟩, _ => exact ⟨by rfl, fun t _ => fin_N2 t, fun x => by fin_cases x <;> exact ⟨rfl, rfl⟩⟩
  | ⟨5, _⟩, _ => exact ⟨by rfl, fun t _ => fin_N2 t, fun x => by fin_cases x <;> exact ⟨rfl, rfl⟩⟩
  | ⟨6, _⟩, _ => exact ⟨by rfl, fun t _ => fin_N2 t, fun x => by fin_cases x <;> exact ⟨rfl, rfl⟩⟩

/-- The arrays after the region. -/
theorem final2 (c : Dev nD) : ∀ w : Fin 7, (dats2 a V 2 c).arrAt w (Pipeline.pin pcfgs a 2).N = W10 (V c) (Proc.devRef .tc (Pipeline.arrRef spec2 w))
  | ⟨0, _⟩ => (Dat.arrAt_in _ 0 rfl _).trans (W10_of _ main_v17 (by decide) (by decide) (by decide)).symm
  | ⟨1, _⟩ => (Dat.arrAt_in _ 1 rfl _).trans (W10_of _ main_v21_0 (by decide) (by decide) (by decide)).symm
  | ⟨2, _⟩ => (Dat.arrAt_in _ 2 rfl _).trans (W10_of _ main_v21_1 (by decide) (by decide) (by decide)).symm
  | ⟨3, _⟩ => (Dat.arrAt_in _ 3 rfl _).trans (W10_of _ main_arg4 (by decide) (by decide) (by decide)).symm
  | ⟨4, _⟩ => ((dats2 a V 2 c).arrAt_eq_of_after_last 4 t2_0 (wholeAt2 a 4 (by decide)) _ fun j => rfl).trans (W10_0 _).symm
  | ⟨5, _⟩ => ((dats2 a V 2 c).arrAt_eq_of_after_last 5 t2_0 (wholeAt2 a 5 (by decide)) _ fun j => rfl).trans (W10_1 _).symm
  | ⟨6, _⟩ => ((dats2 a V 2 c).arrAt_eq_of_after_last 6 t2_0 (wholeAt2 a 6 (by decide)) _ fun j => rfl).trans (W10_2 _).symm

/-- The merge call's segment, entered at the valuation `V` whose table is the admissible one. -/
def reg2 (Er : Dev nD → sProp 𝕄) (hT : ∀ c k, (a 2).1 k = V c (Proc.devRef .tc (pre2.ref k))) :
    Pipeline.RegionSeg pcfgs a (dats2 a V) () (defs₀ (F := F)) Variants.none Lc lvc 2 :=
  Pipeline.RegionSeg.ofHeldT pcfgs a (dats2 a V) () defs₀ Variants.none Lc lvc 2 (fun _ => 0)
    (fun c => iprop(∃ r, prngReg c r)) (fun c => iprop(∃ r, prngReg c r)) launch2
    (fun c => body_obligation2 a V c (hT c)) (fun _ _ => rfl) (fun _ => rfl) (fun c => (dats2 a V 2 c).share_full fun _ => rfl)
    (fun c => .rfl) (fun c => .rfl) (fun _ => 0)
    ⟨fun _ _ _ => by simp [Lc], fun _ _ _ => Nat.le_refl _, fun c g i h => absurd h (Nat.lt_irrefl 0)⟩ Er
    V (fun c => W10 (V c))
    (fun c w => rfl) hT (fun c w => final2 a V c w)
    (fun c k => (hT c k).trans (W10_of _ _ ((by decide : ∀ k : Fin 1, pre2.ref k ≠ main_v25_0) k)
      ((by decide : ∀ k : Fin 1, pre2.ref k ≠ main_v25_1) k) ((by decide : ∀ k : Fin 1, pre2.ref k ≠ main_v25_2) k)).symm)

end Cert.KernelIdeal.Hand

end
-- ==== Proof.KI.Steps.lean ====
/-
  The items of @main one at a time, continuation-passing, over one thread state: every unscoped buffer held at a valuation,
  the generator's register and nothing owed.
-/
module

public import proofs.«01_k».proof.Proof.KI.Region0
public import proofs.«01_k».proof.Proof.KI.Region1
public import proofs.«01_k».proof.Proof.KI.Region2
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UX ℕ

/-- What core `c` holds between two items of @main: its unscoped buffers at `V`, the generator's register, nothing owed. -/
def TS (c : Dev nD) (V : Valuation τ sig (Elt F)) : sProp 𝕄 :=
  iprop(StableHlo.held (c.tc : Thread nD τ) (Pipeline.ucRefs τ sig) V ∗ (∃ r, prngReg c r) ∗ ∃ Wd, owes (c.tc : Thread nD τ) (0 : CellTallies nD τ sig Unit) Wd)

/-- A stretch of host operations takes the valuation to the one after it. -/
theorem stepHost (ops : List (HloOp τ sig (Elt F))) (hsub : ops.Forall fun op => op.bufs ⊆ StableHlo.tcRefs τ sig)
    (hfr : ops.Forall fun op => op.fresh = ∅) (V : Valuation τ sig (Elt F)) (c : Dev nD) {β : Type}
    (k : PUnit → Prog (TpuEff nD τ sig (Elt F) (Pipeline.Sig Λ₀ (Fin 3) fun p => (pcfgs (F := F) p).Adm) .tc) β) (K : β → sProp 𝕄) :
    iprop((iprop(boundary (c.tc : Thread nD τ) ∗ TS c (StableHlo.after ops V)) -∗ wp frame (wpE (Pipeline.defs (pcfgs (F := F)) defs₀) (Variants.lift Variants.none) (c.tc : Thread nD τ) none) Set.univ (k ⟨⟩) K)
        ∗ boundary (c.tc : Thread nD τ) ∗ TS c V ∗ levAts Lc lvc)
      ⊢ wp frame (wpE (Pipeline.defs (pcfgs (F := F)) defs₀) (Variants.lift Variants.none) (c.tc : Thread nD τ) none) Set.univ (StableHlo.seq ops >>= k) K :=
  (Pipeline.HostSeg.ofOps (Ix := Unit) (Name := ℕ) (U := UX) (Lvl := ℕ) (pcfgs (F := F)) defs₀ Variants.none Lc lvc (Pipeline.ucRefs τ sig) ops
    (fun op h => Pipeline.sub_ucRefs op ((List.forall_iff_forall_mem.mp hsub) op h))
    (fun op h => (List.forall_iff_forall_mem.mp hfr) op h) (fun _ => V)
    (fun c => iprop((∃ r, prngReg c r) ∗ ∃ Wd, owes (c.tc : Thread nD τ) (0 : CellTallies nD τ sig Unit) Wd))).run c k K

theorem arr0_sub : Pipeline.arrRefs (τ := τ) (spec0 : Fin _ → _) ⊆ Pipeline.ucRefs τ sig :=
  Pipeline.arrRefs_sub_ucRefs _ (by decide)
theorem arr1_sub : Pipeline.arrRefs (τ := τ) (spec1 : Fin _ → _) ⊆ Pipeline.ucRefs τ sig :=
  Pipeline.arrRefs_sub_ucRefs _ (by decide)
theorem arr2_sub : Pipeline.arrRefs (τ := τ) (spec2 : Fin _ → _) ⊆ Pipeline.ucRefs τ sig :=
  Pipeline.arrRefs_sub_ucRefs _ (by decide)
theorem tbl0_sub : Pipeline.tblRefs (τ := τ) pre0 ⊆ Pipeline.ucRefs τ sig \ Pipeline.arrRefs (τ := τ) spec0 :=
  Pipeline.tblRefs_sub_ucRefs_sdiff _ _ (by decide) (by decide)
theorem tbl2_sub : Pipeline.tblRefs (τ := τ) pre2 ⊆ Pipeline.ucRefs τ sig \ Pipeline.arrRefs (τ := τ) spec2 :=
  Pipeline.tblRefs_sub_ucRefs_sdiff _ _ (by decide) (by decide)

/-- The buffers left when the gather's arrays and table are taken out. -/
abbrev Sr0 : Finset (DevRef τ sig) := (Pipeline.ucRefs τ sig \ Pipeline.arrRefs (τ := τ) spec0) \ Pipeline.tblRefs (τ := τ) pre0

theorem hbm_sub : Pipeline.hbmRefs (τ := τ) H0 ⊆ Sr0 := by decide

theorem arr0_mem (w) : (Proc.devRef .tc (Pipeline.arrRef spec0 w) : DevRef τ sig) ∈ Pipeline.arrRefs (τ := τ) spec0 :=
  Finset.mem_map.mpr ⟨_, Finset.mem_image.mpr ⟨w, Finset.mem_univ _, rfl⟩, rfl⟩
theorem arr1_mem (w) : (Proc.devRef .tc (Pipeline.arrRef spec1 w) : DevRef τ sig) ∈ Pipeline.arrRefs (τ := τ) spec1 :=
  Finset.mem_map.mpr ⟨_, Finset.mem_image.mpr ⟨w, Finset.mem_univ _, rfl⟩, rfl⟩
theorem arr2_mem (w) : (Proc.devRef .tc (Pipeline.arrRef spec2 w) : DevRef τ sig) ∈ Pipeline.arrRefs (τ := τ) spec2 :=
  Finset.mem_map.mpr ⟨_, Finset.mem_image.mpr ⟨w, Finset.mem_univ _, rfl⟩, rfl⟩

/-- Off the gather's arrays its output valuation is the one it entered with. -/
theorem W7_rest (V : Valuation τ sig (Elt F)) (S : Finset (DevRef τ sig)) (b) (hb : b ∈ (Pipeline.ucRefs τ sig \ Pipeline.arrRefs (τ := τ) spec0) \ S) : V b = W7 V b := by
  unfold W7
  rw [Function.update_of_ne]
  rintro rfl
  exact (Finset.mem_sdiff.mp (Finset.mem_sdiff.mp hb).1).2 (arr0_mem 0)

theorem W8_rest (V : Valuation τ sig (Elt F)) (pv pi) (b) (hb : b ∈ Pipeline.ucRefs τ sig \ Pipeline.arrRefs (τ := τ) spec1) : V b = W8 V pv pi b := by
  have h := (Finset.mem_sdiff.mp hb).2
  unfold W8
  rw [Function.update_of_ne, Function.update_of_ne]
  · rintro rfl; exact h (arr1_mem 3)
  · rintro rfl; exact h (arr1_mem 4)

theorem W10_rest (V : Valuation τ sig (Elt F)) (S : Finset (DevRef τ sig)) (b) (hb : b ∈ (Pipeline.ucRefs τ sig \ Pipeline.arrRefs (τ := τ) spec2) \ S) : V b = W10 V b := by
  have h := (Finset.mem_sdiff.mp (Finset.mem_sdiff.mp hb).1).2
  unfold W10
  rw [Function.update_of_ne, Function.update_of_ne, Function.update_of_ne]
  · rintro rfl; exact h (arr2_mem 4)
  · rintro rfl; exact h (arr2_mem 5)
  · rintro rfl; exact h (arr2_mem 6)

/-- The thread state opened into region 0's arrays, its table and the rest. -/
theorem TS_split0 (c : Dev nD) (V : Valuation τ sig (Elt F)) :
    (TS c V : sProp 𝕄) = iprop((StableHlo.held (c.tc : Thread nD τ) (Pipeline.arrRefs (τ := τ) spec0) V ∗ StableHlo.held (c.tc : Thread nD τ) (Pipeline.tblRefs (τ := τ) pre0) V
      ∗ StableHlo.held (c.tc : Thread nD τ) Sr0 V) ∗ (∃ r, prngReg c r) ∗ ∃ Wd, owes (c.tc : Thread nD τ) (0 : CellTallies nD τ sig Unit) Wd) := by
  unfold TS
  rw [StableHlo.held_sub_split (c.tc : Thread nD τ) arr0_sub V, StableHlo.held_sub_split (c.tc : Thread nD τ) tbl0_sub V]
theorem TS_split1 (c : Dev nD) (V : Valuation τ sig (Elt F)) :
    (TS c V : sProp 𝕄) = iprop((StableHlo.held (c.tc : Thread nD τ) (Pipeline.arrRefs (τ := τ) spec1) V
      ∗ StableHlo.held (c.tc : Thread nD τ) (Pipeline.ucRefs τ sig \ Pipeline.arrRefs (τ := τ) spec1) V) ∗ (∃ r, prngReg c r) ∗ ∃ Wd, owes (c.tc : Thread nD τ) (0 : CellTallies nD τ sig Unit) Wd) := by
  unfold TS
  rw [StableHlo.held_sub_split (c.tc : Thread nD τ) arr1_sub V]
theorem TS_split2 (c : Dev nD) (V : Valuation τ sig (Elt F)) :
    (TS c V : sProp 𝕄) = iprop((StableHlo.held (c.tc : Thread nD τ) (Pipeline.arrRefs (τ := τ) spec2) V ∗ StableHlo.held (c.tc : Thread nD τ) (Pipeline.tblRefs (τ := τ) pre2) V
      ∗ StableHlo.held (c.tc : Thread nD τ) ((Pipeline.ucRefs τ sig \ Pipeline.arrRefs (τ := τ) spec2) \ Pipeline.tblRefs (τ := τ) pre2) V) ∗ (∃ r, prngReg c r) ∗ ∃ Wd, owes (c.tc : Thread nD τ) (0 : CellTallies nD τ sig Unit) Wd) := by
  unfold TS
  rw [StableHlo.held_sub_split (c.tc : Thread nD τ) arr2_sub V, StableHlo.held_sub_split (c.tc : Thread nD τ) tbl2_sub V]

variable (a : (p : Fin 3) → (pcfgs (F := F) p).Adm)

/-- One call's share of the second copy's ghost state. -/
abbrev gh (p : Fin 3) (c : Dev nD) : sProp 𝕄 :=
  iprop(Pipeline.cellsGhost (Pipeline.pin (pcfgs (F := F)) a) EP2 p c ∗ Pipeline.toksInit (Pipeline.pin (pcfgs (F := F)) a) EP2 p c)

/-- The gather's call. -/
theorem step0 (V : Dev nD → Valuation τ sig (Elt F)) (hT : ∀ c k, (a 0).1 k = V c (Proc.devRef .tc (pre0.ref k)))
    (hc : ∀ c t, k0_chk1 (wd (V c main_v16) t)) (c : Dev nD) {β : Type}
    (k : PUnit → Prog (TpuEff nD τ sig (Elt F) (Pipeline.Sig Λ₀ (Fin 3) fun p => (pcfgs (F := F) p).Adm) .tc) β) (K : β → sProp 𝕄) :
    iprop((iprop(boundary (c.tc : Thread nD τ) ∗ TS c (W7 (V c))) -∗ wp frame (wpE (Pipeline.defs (pcfgs (F := F)) defs₀) (Variants.lift Variants.none) (c.tc : Thread nD τ) none) Set.univ (k ⟨⟩) K)
        ∗ boundary (c.tc : Thread nD τ) ∗ TS c (V c) ∗ levAts Lc lvc ∗ gh a 0 c)
      ⊢ wp frame (wpE (Pipeline.defs (pcfgs (F := F)) defs₀) (Variants.lift Variants.none) (c.tc : Thread nD τ) none) Set.univ (.op (.customCall (Pipeline.entry 0) ()) k) K := by
  refine .trans ?_ (Pipeline.RegionSeg.wp pcfgs a (dats0 a V) () (cellOf_inj a) EP2 defs₀ Variants.none Lc lvc
    (reg0 a V Sr0 hbm_sub (fun _ => iprop(emp)) hT hc) c none (fun u h => nomatch h) k K)
  refine sep_mono (wand_mono (sep_mono .rfl ?_) .rfl) (sep_mono .rfl (sep_mono ?_ .rfl))
  · show iprop(StableHlo.held (c.tc : Thread nD τ) (Pipeline.arrRefs (τ := τ) spec0) (W7 (V c)) ∗ StableHlo.held (c.tc : Thread nD τ) (Pipeline.tblRefs (τ := τ) pre0) (W7 (V c))
      ∗ (∃ r, prngReg c r) ∗ (StableHlo.held (c.tc : Thread nD τ) Sr0 (V c) ∗ emp) ∗ ∃ Wd, owes (c.tc : Thread nD τ) (0 : CellTallies nD τ sig Unit) Wd) ⊢ _
    rw [TS_split0, StableHlo.held_congr (c.tc : Thread nD τ) (S := Sr0) (V := V c) (V' := W7 (V c)) (fun b hb => W7_rest _ _ b hb)]
    iintro ⟨H1, H2, H3, ⟨H4, -⟩, H5⟩
    isplitl [H1 H2 H4]
    · isplitl [H1]; · iexact H1
      isplitl [H2]; · iexact H2
      iexact H4
    isplitl [H3]; · iexact H3
    iexact H5
  · show _ ⊢ iprop(StableHlo.held (c.tc : Thread nD τ) (Pipeline.arrRefs (τ := τ) spec0) (V c) ∗ StableHlo.held (c.tc : Thread nD τ) (Pipeline.tblRefs (τ := τ) pre0) (V c)
      ∗ (∃ r, prngReg c r) ∗ (StableHlo.held (c.tc : Thread nD τ) Sr0 (V c) ∗ emp) ∗ ∃ Wd, owes (c.tc : Thread nD τ) (0 : CellTallies nD τ sig Unit) Wd)
    rw [TS_split0]
    iintro ⟨⟨H1, H2, H4⟩, H3, H5⟩
    isplitl [H1]; · iexact H1
    isplitl [H2]; · iexact H2
    isplitl [H3]; · iexact H3
    isplitl [H4]
    · isplitl [H4]; · iexact H4
      iempintro
    iexact H5

/-- The chunked logits' call: what it leaves in its two outputs is any pair `Rel1` allows. -/
theorem step1 (V : Dev nD → Valuation τ sig (Elt F)) (c : Dev nD) {β : Type}
    (k : PUnit → Prog (TpuEff nD τ sig (Elt F) (Pipeline.Sig Λ₀ (Fin 3) fun p => (pcfgs (F := F) p).Adm) .tc) β) (K : β → sProp 𝕄) :
    iprop((iprop(boundary (c.tc : Thread nD τ) ∗ ∃ pv pi, ⌜Rel1 (V c) pv pi⌝ ∗ TS c (W8 (V c) pv pi)) -∗ wp frame (wpE (Pipeline.defs (pcfgs (F := F)) defs₀) (Variants.lift Variants.none) (c.tc : Thread nD τ) none) Set.univ (k ⟨⟩) K)
        ∗ boundary (c.tc : Thread nD τ) ∗ TS c (V c) ∗ levAts Lc lvc ∗ gh a 1 c)
      ⊢ wp frame (wpE (Pipeline.defs (pcfgs (F := F)) defs₀) (Variants.lift Variants.none) (c.tc : Thread nD τ) none) Set.univ (.op (.customCall (Pipeline.entry 1) ()) k) K := by
  refine .trans ?_ (Pipeline.RDat.RegionSeg.wp pcfgs a (rdats1 a V) () (cellOf_inj a) EP2 defs₀ Variants.none Lc lvc
    (reg1 a V (fun c => StableHlo.held (c.tc : Thread nD τ) (Pipeline.ucRefs τ sig \ Pipeline.arrRefs (τ := τ) spec1) (V c))) c none (fun u h => nomatch h) k K)
  refine sep_mono (wand_mono (sep_mono .rfl ?_) .rfl) (sep_mono .rfl (sep_mono ?_ .rfl))
  · show iprop(∃ pv pi, ⌜Rel1 (V c) pv pi⌝ ∗ StableHlo.held (c.tc : Thread nD τ) (Pipeline.arrRefs (τ := τ) spec1) (W8 (V c) pv pi)
      ∗ (∃ r, prngReg c r) ∗ StableHlo.held (c.tc : Thread nD τ) (Pipeline.ucRefs τ sig \ Pipeline.arrRefs (τ := τ) spec1) (V c) ∗ ∃ Wd, owes (c.tc : Thread nD τ) (0 : CellTallies nD τ sig Unit) Wd) ⊢ _
    iintro ⟨%pv, %pi, %hR, H1, H3, H4, H5⟩
    iexists pv, pi
    isplitr; · ipureintro; exact hR
    iapply (Entails.of_eq (TS_split1 c (W8 (V c) pv pi)).symm)
    isplitl [H1 H4]
    · isplitl [H1]; · iexact H1
      iapply (Entails.of_eq (StableHlo.held_congr (c.tc : Thread nD τ) (fun b hb => W8_rest (V c) pv pi b hb)))
      iexact H4
    isplitl [H3]; · iexact H3
    iexact H5
  · show _ ⊢ iprop(StableHlo.held (c.tc : Thread nD τ) (Pipeline.arrRefs (τ := τ) spec1) (V c)
      ∗ (∃ r, prngReg c r) ∗ StableHlo.held (c.tc : Thread nD τ) (Pipeline.ucRefs τ sig \ Pipeline.arrRefs (τ := τ) spec1) (V c) ∗ ∃ Wd, owes (c.tc : Thread nD τ) (0 : CellTallies nD τ sig Unit) Wd)
    rw [TS_split1]
    iintro ⟨⟨H1, H4⟩, H3, H5⟩
    isplitl [H1]; · iexact H1
    isplitl [H3]; · iexact H3
    isplitl [H4]; · iexact H4
    iexact H5

/-- The merge's call. -/
theorem step2 (V : Dev nD → Valuation τ sig (Elt F)) (hT : ∀ c k, (a 2).1 k = V c (Proc.devRef .tc (pre2.ref k))) (c : Dev nD) {β : Type}
    (k : PUnit → Prog (TpuEff nD τ sig (Elt F) (Pipeline.Sig Λ₀ (Fin 3) fun p => (pcfgs (F := F) p).Adm) .tc) β) (K : β → sProp 𝕄) :
    iprop((iprop(boundary (c.tc : Thread nD τ) ∗ TS c (W10 (V c))) -∗ wp frame (wpE (Pipeline.defs (pcfgs (F := F)) defs₀) (Variants.lift Variants.none) (c.tc : Thread nD τ) none) Set.univ (k ⟨⟩) K)
        ∗ boundary (c.tc : Thread nD τ) ∗ TS c (V c) ∗ levAts Lc lvc ∗ gh a 2 c)
      ⊢ wp frame (wpE (Pipeline.defs (pcfgs (F := F)) defs₀) (Variants.lift Variants.none) (c.tc : Thread nD τ) none) Set.univ (.op (.customCall (Pipeline.entry 2) ()) k) K := by
  refine .trans ?_ (Pipeline.RegionSeg.wp pcfgs a (dats2 a V) () (cellOf_inj a) EP2 defs₀ Variants.none Lc lvc
    (reg2 a V (fun c => StableHlo.held (c.tc : Thread nD τ) ((Pipeline.ucRefs τ sig \ Pipeline.arrRefs (τ := τ) spec2) \ Pipeline.tblRefs (τ := τ) pre2) (V c)) hT) c none (fun u h => nomatch h) k K)
  refine sep_mono (wand_mono (sep_mono .rfl ?_) .rfl) (sep_mono .rfl (sep_mono ?_ .rfl))
  · show iprop(StableHlo.held (c.tc : Thread nD τ) (Pipeline.arrRefs (τ := τ) spec2) (W10 (V c)) ∗ StableHlo.held (c.tc : Thread nD τ) (Pipeline.tblRefs (τ := τ) pre2) (W10 (V c))
      ∗ (∃ r, prngReg c r) ∗ StableHlo.held (c.tc : Thread nD τ) ((Pipeline.ucRefs τ sig \ Pipeline.arrRefs (τ := τ) spec2) \ Pipeline.tblRefs (τ := τ) pre2) (V c) ∗ ∃ Wd, owes (c.tc : Thread nD τ) (0 : CellTallies nD τ sig Unit) Wd) ⊢ _
    rw [TS_split2, StableHlo.held_congr (c.tc : Thread nD τ) (S := (Pipeline.ucRefs τ sig \ Pipeline.arrRefs (τ := τ) spec2) \ Pipeline.tblRefs (τ := τ) pre2) (V := V c) (V' := W10 (V c)) (fun b hb => W10_rest _ _ b hb)]
    iintro ⟨H1, H2, H3, H4, H5⟩
    isplitl [H1 H2 H4]
    · isplitl [H1]; · iexact H1
      isplitl [H2]; · iexact H2
      iexact H4
    isplitl [H3]; · iexact H3
    iexact H5
  · show _ ⊢ iprop(StableHlo.held (c.tc : Thread nD τ) (Pipeline.arrRefs (τ := τ) spec2) (V c) ∗ StableHlo.held (c.tc : Thread nD τ) (Pipeline.tblRefs (τ := τ) pre2) (V c)
      ∗ (∃ r, prngReg c r) ∗ StableHlo.held (c.tc : Thread nD τ) ((Pipeline.ucRefs τ sig \ Pipeline.arrRefs (τ := τ) spec2) \ Pipeline.tblRefs (τ := τ) pre2) (V c) ∗ ∃ Wd, owes (c.tc : Thread nD τ) (0 : CellTallies nD τ sig Unit) Wd)
    rw [TS_split2]
    iintro ⟨⟨H1, H2, H4⟩, H3, H5⟩
    isplitl [H1]; · iexact H1
    isplitl [H2]; · iexact H2
    isplitl [H3]; · iexact H3
    isplitl [H4]; · iexact H4
    iexact H5

end Cert.KernelIdeal.Hand

end
-- ==== Proof.KI.Run.lean ====
/-
  The run of the kernel's program: the launch with the whole chain of @main as one segment, and what every final state holds.
-/
module

public import proofs.«01_k».proof.Proof.KI.Steps
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UX ℕ

/-- The merge's table is built of two words the calls before it leave alone. -/
theorem tab2_eq (V : Valuation τ sig (Elt F)) :
    StableHlo.after hostOps2 V (Proc.devRef .tc main_v24)
      = concatenate S2 0 [⟨S1, broadcastInDim S1 ![] bcast_S_S1 (V (Proc.devRef .tc main_v5) : Vec F S_ .i32)⟩, ⟨S1, broadcastInDim S1 ![] bcast_S_S1 (V (Proc.devRef .tc main_v4) : Vec F S_ .i32)⟩] concatenates_S1_S1_S2_d0 := by
  after_results

variable (m : (ℓ : Loc nD τ sig) → Buf (Elt F) ℓ)

/-- The tables the two gated calls are entered with. -/
def adm : (p : Fin 3) → (pcfgs (F := F) p).Adm
  | 0 => ⟨fun k => V6 m 0 (Proc.devRef .tc (pre0.ref k)), trivial⟩
  | 1 => cfg1.toPCfg_adm
  | 2 => ⟨fun k => StableHlo.after hostOps2 (V6 m 0) (Proc.devRef .tc (pre2.ref k)), trivial⟩

/-- What core `c` holds at the end, given what the second call left. -/
abbrev VE (c : Dev nD) (pv : Vec F S64x1664 .f32) (pi : Vec F S64x1664 .i32) : Valuation τ sig (Elt F) := W10 (StableHlo.after hostOps2 (W8 (W7 (V6 m c)) pv pi))

/-- The whole of @main on core `c`. -/
theorem main_wp (hc : ∀ c t, k0_chk1 (wd (V6 m c main_v16) t)) (c : Dev nD) {β : Type}
    (k : PUnit → Prog (TpuEff nD τ sig (Elt F) (Pipeline.Sig Λ₀ (Fin 3) fun p => (pcfgs (F := F) p).Adm) .tc) β) (K : β → sProp 𝕄) :
    iprop((iprop(boundary (c.tc : Thread nD τ) ∗ ∃ pv pi, ⌜Rel1 (W7 (V6 m c)) pv pi⌝ ∗ TS c (VE m c pv pi)) -∗ wp frame (wpE (Pipeline.defs (pcfgs (F := F)) defs₀) (Variants.lift Variants.none) (c.tc : Thread nD τ) none) Set.univ (k ⟨⟩) K)
        ∗ boundary (c.tc : Thread nD τ) ∗ (TS c (V0 m c) ∗ gh (adm m) 0 c ∗ gh (adm m) 1 c ∗ gh (adm m) 2 c) ∗ levAts Lc lvc)
      ⊢ wp frame (wpE (Pipeline.defs (pcfgs (F := F)) defs₀) (Variants.lift Variants.none) (c.tc : Thread nD τ) none) Set.univ (main c >>= k) K := by
  rw [main_chain c]
  simp only [Pipeline.chain_cons, Pipeline.chain_nil, bind_assoc, pure_bind]
  iintro ⟨Hk, Hb, ⟨HT, Hg0, Hg1, Hg2⟩, #HL⟩
  iapply (stepHost hostOps0 hostOps0_sub hostOps0_fresh (V0 m c) c)
  isplitr [Hb HT]
  · iintro ⟨Hb, HT⟩
    iapply (stepHost hostOps0_1 hostOps0_1_sub hostOps0_1_fresh (V1 m c) c)
    isplitr [Hb HT]
    · iintro ⟨Hb, HT⟩
      iapply (stepHost hostOps0_2 hostOps0_2_sub hostOps0_2_fresh (V2 m c) c)
      isplitr [Hb HT]
      · iintro ⟨Hb, HT⟩
        iapply (stepHost hostOps0_3 hostOps0_3_sub hostOps0_3_fresh (V3 m c) c)
        isplitr [Hb HT]
        · iintro ⟨Hb, HT⟩
          iapply (stepHost hostOps0_4 hostOps0_4_sub hostOps0_4_fresh (V4 m c) c)
          isplitr [Hb HT]
          · iintro ⟨Hb, HT⟩
            iapply (stepHost hostOps0_5 hostOps0_5_sub hostOps0_5_fresh (V5 m c) c)
            isplitr [Hb HT]
            · iintro ⟨Hb, HT⟩
              iapply (step0 (adm m) (V6 m) (fun c k => by obtain rfl : c = 0 := Subsingleton.elim _ _; rfl) hc c)
              isplitr [Hb HT Hg0]
              · iintro ⟨Hb, HT⟩
                iapply (step1 (adm m) (fun c => W7 (V6 m c)) c)
                isplitr [Hb HT Hg1]
                · iintro ⟨Hb, %pv, %pi, %hR, HT⟩
                  iapply (stepHost hostOps2 hostOps2_sub hostOps2_fresh (W8 (W7 (V6 m c)) pv pi) c)
                  isplitr [Hb HT]
                  · iintro ⟨Hb, HT⟩
                    iapply (step2 (adm m) (fun c => StableHlo.after hostOps2 (W8 (W7 (V6 m c)) pv pi)) (fun c k => by
                      obtain rfl : c = 0 := Subsingleton.elim _ _
                      obtain rfl : k = (0 : Fin 1) := Subsingleton.elim (α := Fin 1) _ _
                      show StableHlo.after hostOps2 (V6 m 0) (Proc.devRef .tc main_v24) = StableHlo.after hostOps2 (W8 (W7 (V6 m 0)) pv pi) (Proc.devRef .tc main_v24)
                      rw [tab2_eq, tab2_eq, W8_of _ _ _ main_v5 (by decide) (by decide), W8_of _ _ _ main_v4 (by decide) (by decide),
                        W7_of _ main_v5 (by decide), W7_of _ main_v4 (by decide)]) c)
                    isplitr [Hb HT Hg2]
                    · iintro ⟨Hb, HT⟩
                      iapply Hk
                      isplitl [Hb]; · iexact Hb
                      iexists pv, pi
                      isplitr; · ipureintro; exact hR
                      iexact HT
                    · isplitl [Hb]; · iexact Hb
                      isplitl [HT]; · iexact HT
                      isplitr [Hg2]; · iexact HL
                      iexact Hg2
                  · isplitl [Hb]; · iexact Hb
                    isplitl [HT]; · iexact HT
                    iexact HL
                · isplitl [Hb]; · iexact Hb
                  isplitl [HT]; · iexact HT
                  isplitr [Hg1]; · iexact HL
                  iexact Hg1
              · isplitl [Hb]; · iexact Hb
                isplitl [HT]; · iexact HT
                isplitr [Hg0]; · iexact HL
                iexact Hg0
            · isplitl [Hb]; · iexact Hb
              isplitl [HT]; · iexact HT
              iexact HL
          · isplitl [Hb]; · iexact Hb
            isplitl [HT]; · iexact HT
            iexact HL
        · isplitl [Hb]; · iexact Hb
          isplitl [HT]; · iexact HT
          iexact HL
      · isplitl [Hb]; · iexact Hb
        isplitl [HT]; · iexact HT
        iexact HL
    · isplitl [Hb]; · iexact Hb
      isplitl [HT]; · iexact HT
      iexact HL
  · isplitl [Hb]; · iexact Hb
    isplitl [HT]; · iexact HT
    iexact HL

/-- The whole of @main as one segment. -/
def mainSeg (hc : ∀ c t, k0_chk1 (wd (V6 m c main_v16) t)) :
    Pipeline.HostSeg (Ix := Unit) (Name := ℕ) (U := UX) (Lvl := ℕ) (pcfgs (F := F)) defs₀ Variants.none Lc lvc where
  prog := main 0
  pre c := iprop(TS c (V0 m c) ∗ gh (adm m) 0 c ∗ gh (adm m) 1 c ∗ gh (adm m) 2 c)
  post c := iprop(∃ pv pi, ⌜Rel1 (W7 (V6 m c)) pv pi⌝ ∗ TS c (VE m c pv pi))
  run c {β} k K := main_wp m hc c k K

/-- The launch's element: both copies of the pipeline library's ghost state, and no counter. -/
def u0 : UX :=
  (Rounds.initOf (Pipeline.cells (Pipeline.pin (pcfgs (F := F)) (adm m)) (cellOf_inj (adm m))) (Pipeline.launchToks (Pipeline.pin (pcfgs (F := F)) (adm m)) (cellOf_inj (adm m))),
   (Rounds.initOf (Pipeline.cells (Pipeline.pin (pcfgs (F := F)) (adm m)) (cellOf_inj (adm m))) (Pipeline.launchToks (Pipeline.pin (pcfgs (F := F)) (adm m)) (cellOf_inj (adm m))), 1))

/-- A unit of both copies splits. -/
theorem ownU_split (x y : UR sig nD τ) : (ownU ((x, (y, 1)) : UX) : sProp 𝕄) ⊢ iprop(BI.own ((EP1 : Emb _ 𝕄) x) ∗ BI.own ((EP2 : Emb _ 𝕄) y)) :=
  ownU_pair x (y, (1 : Counters))

theorem sep3 (A B C X Y Z : sProp 𝕄) : iprop((A ∗ B ∗ C) ∗ X ∗ Y ∗ Z) ⊢ iprop((A ∗ X) ∗ (B ∗ Y) ∗ (C ∗ Z)) := by
  iintro ⟨⟨A0, A1, A2⟩, B0, B1, B2⟩
  isplitl [A0 B0]
  · isplitl [A0]; · iexact A0
    iexact B0
  isplitl [A1 B1]
  · isplitl [A1]; · iexact A1
    iexact B1
  isplitl [A2]; · iexact A2
  iexact B2

/-- The second copy's launch state is every call's share on every core. -/
theorem ghost_split : iprop((bigSep Finset.univ fun c : Dev nD => bigSep Finset.univ fun p => Pipeline.cellsGhost (Pipeline.pin (pcfgs (F := F)) (adm m)) EP2 p c)
      ∗ bigSep Finset.univ fun c : Dev nD => bigSep Finset.univ fun p => (Pipeline.toksInit (Pipeline.pin (pcfgs (F := F)) (adm m)) EP2 p c : sProp 𝕄))
    ⊢ bigSep Finset.univ fun c : Dev nD => iprop(gh (adm m) 0 c ∗ gh (adm m) 1 c ∗ gh (adm m) 2 c) := by
  rw [← bigSep_sep']
  refine bigSep_mono fun c _ => ?_
  rw [bigSep_univ_eq_bigSepL [(0 : Fin 3), 1, 2] (by decide) (by decide), bigSep_univ_eq_bigSepL [(0 : Fin 3), 1, 2] (by decide) (by decide)]
  exact sep3 _ _ _ _ _ _

/-- The segments: one. -/
def segs1 (hc : ∀ c t, k0_chk1 (wd (V6 m c main_v16) t)) (c : Dev nD) :
    List (Pipeline.Seg (Ix := Unit) (Name := ℕ) (U := UX) (Lvl := ℕ) (pcfgs (F := F)) (adm m) (dats0 (adm m) (V6 m)) () defs₀ Variants.none Lc lvc) :=
  [Pipeline.Seg.host (mainSeg m hc)]

theorem segs1_run (hc : ∀ c t, k0_chk1 (wd (V6 m c main_v16) t)) (c : Dev nD) : Pipeline.Seg.run (segs1 m hc c) = main c := by
  obtain rfl : c = 0 := Subsingleton.elim _ _
  rw [Pipeline.Seg.run_eq_chain]
  show Pipeline.chain [(mainSeg m hc).prog] = main 0
  rw [Pipeline.chain_cons, Pipeline.chain_nil]
  exact bind_pure _

theorem segs1_pipes (hc : ∀ c t, k0_chk1 (wd (V6 m c main_v16) t)) (c : Dev nD) : (Pipeline.Seg.pipes (segs1 m hc c)).Nodup := by
  unfold segs1
  rw [Pipeline.Seg.pipes_host, Pipeline.Seg.pipes_nil]
  exact List.nodup_nil

/-- What the launch hands core `c` is the first thread state and the second copy's share. -/
theorem init_core (ρ : Dev nD → PrngReg) (c : Dev nD) :
    (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c)
          ∗ (gh (adm m) 0 c ∗ gh (adm m) 1 c ∗ gh (adm m) 2 c)) : sProp 𝕄)
      ⊢ iprop(TS c (V0 m c) ∗ gh (adm m) 0 c ∗ gh (adm m) 1 c ∗ gh (adm m) 2 c) := by
  have hU := Entails.of_eq (Pipeline.unscopedBufs_held (Ix := Unit) (Name := ℕ) (U := UX) (Lvl := ℕ) c (V0 m c))
  unfold TS
  iintro ⟨HB, -, Ho, -, Hp, HG⟩
  isplitr [HG]
  · isplitl [HB]; · iapply hU; iexact HB
    isplitl [Hp]; · iexists (ρ c); iexact Hp
    iexists _; iexact Ho
  iexact HG

set_option backward.isDefEq.respectTransparency.types false in
/-- Every run from memory `m` with zero counters ends, every unscoped buffer at the last valuation, every counter at zero. -/
theorem run (ρ : Dev nD → PrngReg) (hc : ∀ c t, k0_chk1 (wd (V6 m c main_v16) t)) :
    θ_run defs (onTc (τ := τ) (main (F := F))) ⟨m, fun _ => 0, ρ⟩ (fun r => (∀ c : Dev nD, ∃ pv pi, Rel1 (W7 (V6 m c)) pv pi ∧
        ∀ b : Ref sig .tc, b.isScoped = false → r.2.mem ((c.tc : Thread nD τ).loc b) = VE m c pv pi (Proc.devRef .tc b))
      ∧ r.2.sem = fun _ => 0) := by
  refine Pipeline.θ_run_regions_kit_dev_sems (pcfgs (F := F)) (adm m) (dats0 (adm m) (V6 m)) () (cellOf_inj (adm m)) EP1 defs₀ Variants.none Lc lvc m ρ main
    (segs1 m hc) (fun c Q => by rw [segs1_run m hc c]) (segs1_pipes m hc) (fun _ => 0) (fun g h => if_neg h)
    (fun c => iprop(gh (adm m) 0 c ∗ gh (adm m) 1 c ∗ gh (adm m) 2 c)) (u0 m) ?_
    (T₀ := fun c => iprop(TS c (V0 m c) ∗ gh (adm m) 0 c ∗ gh (adm m) 1 c ∗ gh (adm m) 2 c))
    (Tₙ := fun c => iprop(∃ pv pi, ⌜Rel1 (W7 (V6 m c)) pv pi⌝ ∗ StableHlo.held (c.tc : Thread nD τ) (Pipeline.ucRefs τ sig) (VE m c pv pi)))
    (hch := fun c => ⟨.rfl, ?_⟩)
    (hinit := ?_) (QY := fun c s => ∃ pv pi, Rel1 (W7 (V6 m c)) pv pi ∧
        ∀ b : Ref sig .tc, b.isScoped = false → s.mem ((c.tc : Thread nD τ).loc b) = VE m c pv pi (Proc.devRef .tc b))
    (hfin := fun c s' => ?_) (hQ := fun _ h hz => ⟨h, funext fun g => hz g (.inr (regions_no_unscoped g.2))⟩)
  · unfold u0
    iintro Hu
    ihave H := (ownU_split _ _) $$ Hu
    icases H with ⟨H1, H2⟩
    imod (Pipeline.fund_ghost (Pipeline.pin (pcfgs (F := F)) (adm m)) EP2 (cellOf_inj (adm m))) $$ H2 with H2
    imodintro
    isplitl [H1]; · iexact H1
    iapply (ghost_split m); iexact H2
  · show iprop(∃ pv pi, ⌜Rel1 (W7 (V6 m c)) pv pi⌝ ∗ TS c (VE m c pv pi)) ⊢ _
    unfold TS
    iintro ⟨%pv, %pi, %hR, Hh, -, Ho⟩
    isplitl [Hh]
    · iexists pv, pi
      isplitr; · ipureintro; exact hR
      iexact Hh
    iexact Ho
  · refine .trans ?_ fupd_intro
    refine .trans sep_elim_left (bigSep_mono fun c _ => ?_)
    exact init_core m ρ c
  · unfold StableHlo.held
    iintro ⟨⟨%pv, %pi, %hR, Hh⟩, HSI⟩
    ihave Hr := (pointsTo_read_all (Pipeline.ucRefs τ sig) (fun b => ((c : Thread nD τ).1, b)) (VE m c pv pi) s') $$ [Hh HSI]
    · isplitl [Hh] <;> iassumption
    icases Hr with ⟨%h, HSI⟩
    imodintro
    isplitr
    · ipureintro
      exact ⟨pv, pi, hR, fun b hb => h (Proc.devRef .tc b) (Finset.mem_filter.mpr ⟨StableHlo.devRef_mem_tcRefs b, fun hs => Bool.false_ne_true (hb.symm.trans hs)⟩)⟩
    · iexact HSI

end Cert.KernelIdeal.Hand

end
-- ==== Proof.KI.Bound.lean ====
/-
  With the token ids and the buffer's integer parts rows of the embedding table, so is every token whose row is gathered;
  hence the program runs, and its arguments end unchanged.
-/
module

public import proofs.«01_k».proof.Proof.KI.Host
public import proofs.«01_k».proof.Proof.KI.Run
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UX ℕ

/-- A table word below 100000 names a row of the embedding table. -/
theorem chk1_of {v : BitVec 32} (h : v.toNat < 100000) : k0_chk1 v := by
  unfold k0_chk1 k0_off3
  intro a
  fin_cases a
  · show v.toNat + 1 ≤ 100000
    omega
  · show 0 + 128 ≤ 128
    omega

/-- Every token whose row is gathered is one of the ids or an entry of the buffer. -/
theorem curH_lt (ids : Vec F S64x1 .i32) (gen : Vec F S64x2047 .f32) (s : Vec F S1 .f32)
    (hi : ∀ i, (ids i).toNat < 100000) (hg : ∀ j, (fptosi 32 gen j : BitVec 32).toNat < 100000) (j : S64.Idx) :
    (curH ids gen s j).toNat < 100000 := by
  unfold curH select Scalar.select
  split
  · exact hi _
  · exact hg _

/-- Every word of the table the gather call reads names a row. -/
theorem words_ok (m : (ℓ : Loc nD τ sig) → Buf (Elt F) ℓ)
    (hi : ∀ (c : Dev nD) i, (V0 m c main_arg0 i).toNat < 100000)
    (hg : ∀ (c : Dev nD) j, (fptosi 32 (V0 m c main_arg4 : Vec F S64x2047 .f32) j : BitVec 32).toNat < 100000) :
    ∀ c t, k0_chk1 (wd (V6 m c main_v16) t) := fun c t => by
  rw [V6_v16]
  exact chk1_of (curH_lt _ _ _ (hi c) (hg c) _)

/-- An argument's buffer at the end. -/
theorem VE_arg (m : (ℓ : Loc nD τ sig) → Buf (Elt F) ℓ) (c : Dev nD) (pv pi) (r : Ref sig .tc)
    (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps2_W) (h7 : r ≠ main_v20) (h8 : r ≠ main_v21_0) (h9 : r ≠ main_v21_1)
    (ha : r ≠ main_v25_0) (hb : r ≠ main_v25_1) (hd : r ≠ main_v25_2) : VE m c pv pi (Proc.devRef .tc r) = m ((c.tc : Thread nD τ).loc r) :=
  (W10_of _ r ha hb hd).trans <| (StableHlo.after_of_writes_sub hostOps2 _ hostOps2_writes h6).trans <|
    (W8_of _ pv pi r h8 h9).trans <| (W7_of _ r h7).trans (V6_arg m c r h0 h1 h2 h3 h4 h5)

/-- The program runs, its arguments end unchanged and every counter ends at zero. -/
theorem frame (m) (ρ : Dev nD → PrngReg) (hc : ∀ c t, k0_chk1 (wd (V6 m c main_v16) t)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run _ _ _).mono (fun r hr => ⟨fun c => ?_, hr.2⟩) (run m ρ hc)
  obtain ⟨pv, pi, -, h⟩ := hr.1 c
  refine ⟨(h main_arg0 rfl).trans (VE_arg m c pv pi main_arg0 ?_ ?_ ?_ ?_ ?_ ?_ ?_ ?_ ?_ ?_ ?_ ?_ ?_),
    (h main_arg1 rfl).trans (VE_arg m c pv pi main_arg1 ?_ ?_ ?_ ?_ ?_ ?_ ?_ ?_ ?_ ?_ ?_ ?_ ?_),
    (h main_arg2 rfl).trans (VE_arg m c pv pi main_arg2 ?_ ?_ ?_ ?_ ?_ ?_ ?_ ?_ ?_ ?_ ?_ ?_ ?_),
    (h main_arg3 rfl).trans (VE_arg m c pv pi main_arg3 ?_ ?_ ?_ ?_ ?_ ?_ ?_ ?_ ?_ ?_ ?_ ?_ ?_),
    (h main_arg4 rfl).trans (VE_arg m c pv pi main_arg4 ?_ ?_ ?_ ?_ ?_ ?_ ?_ ?_ ?_ ?_ ?_ ?_ ?_),
    (h main_arg5 rfl).trans (VE_arg m c pv pi main_arg5 ?_ ?_ ?_ ?_ ?_ ?_ ?_ ?_ ?_ ?_ ?_ ?_ ?_)⟩ <;> decide

end Cert.KernelIdeal.Hand

end
-- ==== Proof.RI.Run.lean ====
/-
  The reference as a list of host operations, piece by piece, and its run.
-/
module

public import proofs.«01_k».proof.Proof.Gen.ReferenceIdeal
public import Idealize.ShloMosaic.Lib.StableHlo.RunHlo
public import Idealize.ShloMosaic.Lib.Quiescent

@[expose] public section

noncomputable section

namespace Cert.ReferenceIdeal.Hand

open Cert.ReferenceIdeal Cert.ReferenceIdeal.Gen

open Idealize.ShloMosaic Idealize.SL.Sem

variable {F : FTy → Type} [FloatOps F]

/-- A column of the token columns taken at an index, checked against their range. -/
def take (arg0 : StableHlo.TRef sig ⟨S64x2048, .i32⟩) (arg1 : StableHlo.TRef sig ⟨S1, .i32⟩) (φ : fn_take.Bufs) : List (HloOp τ sig (Elt F)) :=
  [StableHlo.TRef.nullary φ.c (constantI S_ 32 0#32),
   StableHlo.TRef.unary φ.c φ.v0 (broadcastInDim S1 ![] bcast_S_S1),
   StableHlo.TRef.binary arg1 φ.v0 φ.v1 (cmpi .slt),
   StableHlo.TRef.nullary φ.c_0 (constantI S_ 32 2048#32),
   StableHlo.TRef.unary φ.c_0 φ.v2 (broadcastInDim S1 ![] bcast_S_S1),
   StableHlo.TRef.binary arg1 φ.v2 φ.v3 addi,
   StableHlo.TRef.ternary φ.v1 φ.v3 arg1 φ.call0.v0 select,
   StableHlo.TRef.unary φ.call0.v0 φ.v5 (broadcastInDim S1x1 ![0] bcast_S1_S1x1_0),
   StableHlo.TRef.nullary φ.c_1 (constantI S1 32 2047#32),
   StableHlo.TRef.nullary φ.c_2 (constantI S_ 32 0#32),
   StableHlo.TRef.unary φ.c_2 φ.v6 (broadcastInDim S1x1 ![] bcast_S_S1x1),
   StableHlo.TRef.binary φ.v5 φ.v6 φ.v7 (cmpi .sge),
   StableHlo.TRef.unary φ.c_1 φ.v8 (broadcastInDim S1x1 ![1] bcast_S1_S1x1_1),
   StableHlo.TRef.binary φ.v5 φ.v8 φ.v9 (cmpi .sle),
   StableHlo.TRef.binary φ.v7 φ.v9 φ.v10 andi,
   StableHlo.TRef.nullary φ.c_3 (constantI S_ 1 1#1),
   StableHlo.TRef.binary φ.v10 φ.c_3 φ.v11 (fun x v => Host.reduce IntOp.andi x v reducesTo_S1x1_S1_d1 h_S_),
   StableHlo.TRef.binary arg0 φ.v5 φ.v12 (fun x i => Host.gather gather_S64x2048_S1x1_S64x1_0_1_n_n_1_1_641 x i),
   StableHlo.TRef.unary φ.v11 φ.v13 (broadcastInDim S64x1 ![1] bcast_S1_S64x1_1),
   StableHlo.TRef.nullary φ.c_4 (constantI S_ 32 2147483648#32),
   StableHlo.TRef.unary φ.c_4 φ.v14 (broadcastInDim S64x1 ![] bcast_S_S64x1),
   StableHlo.TRef.ternary φ.v13 φ.v12 φ.v14 φ.v15 select]
theorem take_eq (arg0 : StableHlo.TRef sig ⟨S64x2048, .i32⟩) (arg1 : StableHlo.TRef sig ⟨S1, .i32⟩) (φ : fn_take.Bufs) :
    fn_take.body (F := F) arg0 arg1 φ = StableHlo.seq (take arg0 arg1 φ) := rfl

/-- The rows of the embedding table that a column of tokens names, checked likewise. -/
def rows (arg0 : StableHlo.TRef sig ⟨S100000x128, .f32⟩) (arg1 : StableHlo.TRef sig ⟨S64x1, .i32⟩) (φ : fn_take_0.Bufs) : List (HloOp τ sig (Elt F)) :=
  [StableHlo.TRef.nullary φ.c (constantI S_ 32 0#32),
   StableHlo.TRef.unary φ.c φ.v0 (broadcastInDim S64x1 ![] bcast_S_S64x1),
   StableHlo.TRef.binary arg1 φ.v0 φ.v1 (cmpi .slt),
   StableHlo.TRef.nullary φ.c_0 (constantI S_ 32 100000#32),
   StableHlo.TRef.unary φ.c_0 φ.v2 (broadcastInDim S64x1 ![] bcast_S_S64x1),
   StableHlo.TRef.binary arg1 φ.v2 φ.v3 addi,
   StableHlo.TRef.ternary φ.v1 φ.v3 arg1 φ.call0.v0 select,
   StableHlo.TRef.unary φ.call0.v0 φ.v5 (broadcastInDim S64x1x1 ![0, 1] bcast_S64x1_S64x1x1_0_1),
   StableHlo.TRef.nullary φ.c_1 (constantI S1 32 99999#32),
   StableHlo.TRef.nullary φ.c_2 (constantI S_ 32 0#32),
   StableHlo.TRef.unary φ.c_2 φ.v6 (broadcastInDim S64x1x1 ![] bcast_S_S64x1x1),
   StableHlo.TRef.binary φ.v5 φ.v6 φ.v7 (cmpi .sge),
   StableHlo.TRef.unary φ.c_1 φ.v8 (broadcastInDim S1x1x1 ![2] bcast_S1_S1x1x1_2),
   StableHlo.TRef.unary φ.v8 φ.v9 (broadcastInDim S64x1x1 ![0, 1, 2] bcast_S1x1x1_S64x1x1_0_1_2),
   StableHlo.TRef.binary φ.v5 φ.v9 φ.v10 (cmpi .sle),
   StableHlo.TRef.binary φ.v7 φ.v10 φ.v11 andi,
   StableHlo.TRef.nullary φ.c_3 (constantI S_ 1 1#1),
   StableHlo.TRef.binary φ.v11 φ.c_3 φ.v12 (fun x v => Host.reduce IntOp.andi x v reducesTo_S64x1x1_S64x1_d2 h_S_),
   StableHlo.TRef.binary arg0 φ.v5 φ.v13 (fun x i => Host.gather gather_S100000x128_S64x1x1_S64x1x128_2_0_n_n_0_2_1128 x i),
   StableHlo.TRef.unary φ.v12 φ.v14 (broadcastInDim S64x1x128 ![0, 1] bcast_S64x1_S64x1x128_0_1),
   StableHlo.TRef.nullary φ.cst (constant S_ .f32 0x7FC00000#32),
   StableHlo.TRef.unary φ.cst φ.v15 (broadcastInDim S64x1x128 ![] bcast_S_S64x1x128),
   StableHlo.TRef.ternary φ.v14 φ.v13 φ.v15 φ.v16 select]
theorem rows_eq (arg0 : StableHlo.TRef sig ⟨S100000x128, .f32⟩) (arg1 : StableHlo.TRef sig ⟨S64x1, .i32⟩) (φ : fn_take_0.Bufs) :
    fn_take_0.body (F := F) arg0 arg1 φ = StableHlo.seq (rows arg0 arg1 φ) := rfl

/-- The first greatest entry of every row. -/
def argmax (arg0 : StableHlo.TRef sig ⟨S64x100000, .f32⟩) (φ : fn_argmax.Bufs) : List (HloOp τ sig (Elt F)) :=
  [StableHlo.TRef.nullary φ.v0 (iotaInDim S64x100000 32 1),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S64x100000_S64_d1 h_S_ j).1),
   StableHlo.TRef.quaternary arg0 φ.v0 φ.cst φ.c φ.v1_1 (fun x y u v j => (Host.argReduce reducer_argmax_f32_i32 x y u v reducesTo_S64x100000_S64_d1 h_S_ j).2)]
theorem argmax_eq (arg0 : StableHlo.TRef sig ⟨S64x100000, .f32⟩) (φ : fn_argmax.Bufs) :
    fn_argmax.body (F := F) arg0 φ = StableHlo.seq (argmax arg0 φ) := rfl

/-- The reference's own operations: the step, the first column, the cleared buffer, the token columns and the index read. -/
def ops0 : List (HloOp τ sig (Elt F)) :=
  [StableHlo.nullary main_cst (constant S_ .f32 0x44FFE000#32),
   StableHlo.unary main_cst main_v0 (broadcastInDim S1 ![] bcast_S_S1 : (⟨S_, .f32⟩ : BufTy).Contents (Elt F) → (⟨S1, .f32⟩ : BufTy).Contents (Elt F)),
   StableHlo.binary main_arg5 main_v0 main_v1 (cmpf .olt : (⟨S1, .f32⟩ : BufTy).Contents (Elt F) → (⟨S1, .f32⟩ : BufTy).Contents (Elt F) → (⟨S1, .i1⟩ : BufTy).Contents (Elt F)),
   StableHlo.unary main_v1 main_v2 (uitofp .f32 : (⟨S1, .i1⟩ : BufTy).Contents (Elt F) → (⟨S1, .f32⟩ : BufTy).Contents (Elt F)),
   StableHlo.binary main_v2 main_arg5 main_v3 (mulf : (⟨S1, .f32⟩ : BufTy).Contents (Elt F) → (⟨S1, .f32⟩ : BufTy).Contents (Elt F) → (⟨S1, .f32⟩ : BufTy).Contents (Elt F)),
   StableHlo.nullary main_cst_0 (constant S_ .f32 0x00000000#32),
   StableHlo.unary main_cst_0 main_v4 (broadcastInDim S1 ![] bcast_S_S1 : (⟨S_, .f32⟩ : BufTy).Contents (Elt F) → (⟨S1, .f32⟩ : BufTy).Contents (Elt F)),
   StableHlo.binary main_v3 main_v4 main_v5 (cmpf .oeq : (⟨S1, .f32⟩ : BufTy).Contents (Elt F) → (⟨S1, .f32⟩ : BufTy).Contents (Elt F) → (⟨S1, .i1⟩ : BufTy).Contents (Elt F)),
   StableHlo.unary main_v5 main_v6 (uitofp .f32 : (⟨S1, .i1⟩ : BufTy).Contents (Elt F) → (⟨S1, .f32⟩ : BufTy).Contents (Elt F)),
   StableHlo.nullary main_cst_1 (constant S_ .f32 0x3F800000#32),
   StableHlo.unary main_cst_1 main_v7 (broadcastInDim S1 ![] bcast_S_S1 : (⟨S_, .f32⟩ : BufTy).Contents (Elt F) → (⟨S1, .f32⟩ : BufTy).Contents (Elt F)),
   StableHlo.binary main_v7 main_v6 main_v8 (subf : (⟨S1, .f32⟩ : BufTy).Contents (Elt F) → (⟨S1, .f32⟩ : BufTy).Contents (Elt F) → (⟨S1, .f32⟩ : BufTy).Contents (Elt F)),
   StableHlo.unary main_v8 main_v9 (broadcastInDim S1x1 ![1] bcast_S1_S1x1_1 : (⟨S1, .f32⟩ : BufTy).Contents (Elt F) → (⟨S1x1, .f32⟩ : BufTy).Contents (Elt F)),
   StableHlo.unary main_v9 main_v10 (broadcastInDim S64x2047 ![0, 1] bcast_S1x1_S64x2047_0_1 : (⟨S1x1, .f32⟩ : BufTy).Contents (Elt F) → (⟨S64x2047, .f32⟩ : BufTy).Contents (Elt F)),
   StableHlo.binary main_v10 main_arg4 main_v11 (mulf : (⟨S64x2047, .f32⟩ : BufTy).Contents (Elt F) → (⟨S64x2047, .f32⟩ : BufTy).Contents (Elt F) → (⟨S64x2047, .f32⟩ : BufTy).Contents (Elt F)),
   StableHlo.nullary main_cst_2 (constant S_ .f32 0x3F800000#32),
   StableHlo.unary main_cst_2 main_v12 (broadcastInDim S64x2047 ![] bcast_S_S64x2047 : (⟨S_, .f32⟩ : BufTy).Contents (Elt F) → (⟨S64x2047, .f32⟩ : BufTy).Contents (Elt F)),
   StableHlo.unary main_v6 main_v13 (broadcastInDim S1x1 ![1] bcast_S1_S1x1_1 : (⟨S1, .f32⟩ : BufTy).Contents (Elt F) → (⟨S1x1, .f32⟩ : BufTy).Contents (Elt F)),
   StableHlo.unary main_v13 main_v14 (broadcastInDim S64x2047 ![0, 1] bcast_S1x1_S64x2047_0_1 : (⟨S1x1, .f32⟩ : BufTy).Contents (Elt F) → (⟨S64x2047, .f32⟩ : BufTy).Contents (Elt F)),
   StableHlo.binary main_v14 main_v12 main_v15 (mulf : (⟨S64x2047, .f32⟩ : BufTy).Contents (Elt F) → (⟨S64x2047, .f32⟩ : BufTy).Contents (Elt F) → (⟨S64x2047, .f32⟩ : BufTy).Contents (Elt F)),
   StableHlo.nullary main_cst_3 (constant S_ .f32 0x00000000#32),
   StableHlo.unary main_cst_3 main_v16 (broadcastInDim S64x2047 ![] bcast_S_S64x2047 : (⟨S_, .f32⟩ : BufTy).Contents (Elt F) → (⟨S64x2047, .f32⟩ : BufTy).Contents (Elt F)),
   StableHlo.binary main_v15 main_v16 main_v17 (mulf : (⟨S64x2047, .f32⟩ : BufTy).Contents (Elt F) → (⟨S64x2047, .f32⟩ : BufTy).Contents (Elt F) → (⟨S64x2047, .f32⟩ : BufTy).Contents (Elt F)),
   StableHlo.binary main_v11 main_v17 main_v18 (addf : (⟨S64x2047, .f32⟩ : BufTy).Contents (Elt F) → (⟨S64x2047, .f32⟩ : BufTy).Contents (Elt F) → (⟨S64x2047, .f32⟩ : BufTy).Contents (Elt F)),
   StableHlo.nullary main_cst_4 (constant S_ .f32 0x3F800000#32),
   StableHlo.unary main_cst_4 main_v19 (broadcastInDim S1 ![] bcast_S_S1 : (⟨S_, .f32⟩ : BufTy).Contents (Elt F) → (⟨S1, .f32⟩ : BufTy).Contents (Elt F)),
   StableHlo.binary main_v19 main_v6 main_v20 (subf : (⟨S1, .f32⟩ : BufTy).Contents (Elt F) → (⟨S1, .f32⟩ : BufTy).Contents (Elt F) → (⟨S1, .f32⟩ : BufTy).Contents (Elt F)),
   StableHlo.binary main_v20 main_v3 main_v21 (mulf : (⟨S1, .f32⟩ : BufTy).Contents (Elt F) → (⟨S1, .f32⟩ : BufTy).Contents (Elt F) → (⟨S1, .f32⟩ : BufTy).Contents (Elt F)),
   StableHlo.unary main_v18 main_v22 (fptosi 32 : (⟨S64x2047, .f32⟩ : BufTy).Contents (Elt F) → (⟨S64x2047, .i32⟩ : BufTy).Contents (Elt F)),
   StableHlo.binary main_arg0 main_v22 main_v23 ((fun a b => concatenate S64x2048 1 [⟨S64x1, a⟩, ⟨S64x2047, b⟩] concatenates_S64x1_S64x2047_S64x2048_d1) : (⟨S64x1, .i32⟩ : BufTy).Contents (Elt F) → (⟨S64x2047, .i32⟩ : BufTy).Contents (Elt F) → (⟨S64x2048, .i32⟩ : BufTy).Contents (Elt F)),
   StableHlo.unary main_v21 main_v24 (fptosi 32 : (⟨S1, .f32⟩ : BufTy).Contents (Elt F) → (⟨S1, .i32⟩ : BufTy).Contents (Elt F)),
   StableHlo.nullary main_c (constantI S_ 32 1#32),
   StableHlo.unary main_c main_v25 (broadcastInDim S1 ![] bcast_S_S1 : (⟨S_, .i32⟩ : BufTy).Contents (Elt F) → (⟨S1, .i32⟩ : BufTy).Contents (Elt F)),
   StableHlo.binary main_v25 main_v24 main_v26 (addi : (⟨S1, .i32⟩ : BufTy).Contents (Elt F) → (⟨S1, .i32⟩ : BufTy).Contents (Elt F) → (⟨S1, .i32⟩ : BufTy).Contents (Elt F)),
   StableHlo.nullary main_c_5 (constantI S_ 32 1#32),
   StableHlo.unary main_c_5 main_v27 (broadcastInDim S1 ![] bcast_S_S1 : (⟨S_, .i32⟩ : BufTy).Contents (Elt F) → (⟨S1, .i32⟩ : BufTy).Contents (Elt F)),
   StableHlo.binary main_v26 main_v27 main_v28 (subi : (⟨S1, .i32⟩ : BufTy).Contents (Elt F) → (⟨S1, .i32⟩ : BufTy).Contents (Elt F) → (⟨S1, .i32⟩ : BufTy).Contents (Elt F))]

/-- The reference's own operations: the logits. -/
def ops1 : List (HloOp τ sig (Elt F)) :=
  [StableHlo.binary main_v30 main_arg2 main_v31 ((fun l r => Host.dotGeneral dot_S64x1x128_S128x100000_S64x1x100000_2_0_01_1_n_n none l r) : (⟨S64x1x128, .f32⟩ : BufTy).Contents (Elt F) → (⟨S128x100000, .f32⟩ : BufTy).Contents (Elt F) → (⟨S64x1x100000, .f32⟩ : BufTy).Contents (Elt F)),
   StableHlo.unary main_arg3 main_v32 (broadcastInDim S1x1x100000 ![2] bcast_S100000_S1x1x100000_2 : (⟨S100000, .f32⟩ : BufTy).Contents (Elt F) → (⟨S1x1x100000, .f32⟩ : BufTy).Contents (Elt F)),
   StableHlo.unary main_v32 main_v33 (broadcastInDim S64x1x100000 ![0, 1, 2] bcast_S1x1x100000_S64x1x100000_0_1_2 : (⟨S1x1x100000, .f32⟩ : BufTy).Contents (Elt F) → (⟨S64x1x100000, .f32⟩ : BufTy).Contents (Elt F)),
   StableHlo.binary main_v31 main_v33 main_v34 (addf : (⟨S64x1x100000, .f32⟩ : BufTy).Contents (Elt F) → (⟨S64x1x100000, .f32⟩ : BufTy).Contents (Elt F) → (⟨S64x1x100000, .f32⟩ : BufTy).Contents (Elt F)),
   StableHlo.reshape main_v34 main_v35 (rfl : (.f32 : EltTy) = .f32) shapeCasts_S64x1x100000_S64x100000]

/-- The reference's own operations: the tokens chosen, as a column. -/
def ops2 : List (HloOp τ sig (Elt F)) :=
  [StableHlo.unary main_v36 main_v37 (broadcastInDim S64x1 ![0] bcast_S64_S64x1_0 : (⟨S64, .i32⟩ : BufTy).Contents (Elt F) → (⟨S64x1, .i32⟩ : BufTy).Contents (Elt F))]

/-- The reference's own operations: the tokens put out. -/
def ops3 : List (HloOp τ sig (Elt F)) :=
  [StableHlo.nullary main_c_6 (constantI S_ 32 2#32),
   StableHlo.unary main_c_6 main_v39 (broadcastInDim S64x1 ![] bcast_S_S64x1 : (⟨S_, .i32⟩ : BufTy).Contents (Elt F) → (⟨S64x1, .i32⟩ : BufTy).Contents (Elt F)),
   StableHlo.binary main_v38 main_v39 main_v40 (cmpi .eq : (⟨S64x1, .i32⟩ : BufTy).Contents (Elt F) → (⟨S64x1, .i32⟩ : BufTy).Contents (Elt F) → (⟨S64x1, .i1⟩ : BufTy).Contents (Elt F)),
   StableHlo.unary main_v40 main_v41 ((extui 32 · natLt_1_32) : (⟨S64x1, .i1⟩ : BufTy).Contents (Elt F) → (⟨S64x1, .i32⟩ : BufTy).Contents (Elt F)),
   StableHlo.nullary main_c_7 (constantI S_ 32 2#32),
   StableHlo.unary main_c_7 main_v42 (broadcastInDim S64x1 ![] bcast_S_S64x1 : (⟨S_, .i32⟩ : BufTy).Contents (Elt F) → (⟨S64x1, .i32⟩ : BufTy).Contents (Elt F)),
   StableHlo.binary main_v41 main_v42 main_v43 (muli : (⟨S64x1, .i32⟩ : BufTy).Contents (Elt F) → (⟨S64x1, .i32⟩ : BufTy).Contents (Elt F) → (⟨S64x1, .i32⟩ : BufTy).Contents (Elt F)),
   StableHlo.nullary main_c_8 (constantI S_ 32 1#32),
   StableHlo.unary main_c_8 main_v44 (broadcastInDim S64x1 ![] bcast_S_S64x1 : (⟨S_, .i32⟩ : BufTy).Contents (Elt F) → (⟨S64x1, .i32⟩ : BufTy).Contents (Elt F)),
   StableHlo.binary main_v44 main_v41 main_v45 (subi : (⟨S64x1, .i32⟩ : BufTy).Contents (Elt F) → (⟨S64x1, .i32⟩ : BufTy).Contents (Elt F) → (⟨S64x1, .i32⟩ : BufTy).Contents (Elt F)),
   StableHlo.binary main_v45 main_v37 main_v46 (muli : (⟨S64x1, .i32⟩ : BufTy).Contents (Elt F) → (⟨S64x1, .i32⟩ : BufTy).Contents (Elt F) → (⟨S64x1, .i32⟩ : BufTy).Contents (Elt F)),
   StableHlo.binary main_v43 main_v46 main_v47 (addi : (⟨S64x1, .i32⟩ : BufTy).Contents (Elt F) → (⟨S64x1, .i32⟩ : BufTy).Contents (Elt F) → (⟨S64x1, .i32⟩ : BufTy).Contents (Elt F)),
   StableHlo.unary main_v21 main_v48 (fptosi 32 : (⟨S1, .f32⟩ : BufTy).Contents (Elt F) → (⟨S1, .i32⟩ : BufTy).Contents (Elt F))]

/-- The reference's own operations: the buffer written and the step moved. -/
def ops4 : List (HloOp τ sig (Elt F)) :=
  [StableHlo.reshape main_v48 main_v49 (rfl : (.i32 : EltTy) = .i32) shapeCasts_S1_S_,
   StableHlo.reshape main_v47 main_v50 (rfl : (.i32 : EltTy) = .i32) shapeCasts_S64x1_S64,
   StableHlo.nullary main_c_9 (constantI S_ 32 0#32),
   StableHlo.unary main_c_9 main_v51 (broadcastInDim S64 ![] bcast_S_S64 : (⟨S_, .i32⟩ : BufTy).Contents (Elt F) → (⟨S64, .i32⟩ : BufTy).Contents (Elt F)),
   StableHlo.binary main_v50 main_v51 main_v52 (subi : (⟨S64, .i32⟩ : BufTy).Contents (Elt F) → (⟨S64, .i32⟩ : BufTy).Contents (Elt F) → (⟨S64, .i32⟩ : BufTy).Contents (Elt F)),
   StableHlo.unary main_v52 main_v53 (sitofp .f32 : (⟨S64, .i32⟩ : BufTy).Contents (Elt F) → (⟨S64, .f32⟩ : BufTy).Contents (Elt F)),
   StableHlo.nullary main_c_10 (constantI S_ 32 0#32),
   StableHlo.binary main_v49 main_c_10 main_v54 (cmpi .slt : (⟨S_, .i32⟩ : BufTy).Contents (Elt F) → (⟨S_, .i32⟩ : BufTy).Contents (Elt F) → (⟨S_, .i1⟩ : BufTy).Contents (Elt F)),
   StableHlo.nullary main_c_11 (constantI S_ 32 2047#32),
   StableHlo.binary main_v49 main_c_11 main_v55 (addi : (⟨S_, .i32⟩ : BufTy).Contents (Elt F) → (⟨S_, .i32⟩ : BufTy).Contents (Elt F) → (⟨S_, .i32⟩ : BufTy).Contents (Elt F)),
   StableHlo.ternary main_v54 main_v55 main_v49 main_v56 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unary main_v56 main_v57 (broadcastInDim S1 ![] bcast_S_S1 : (⟨S_, .i32⟩ : BufTy).Contents (Elt F) → (⟨S1, .i32⟩ : BufTy).Contents (Elt F)),
   StableHlo.ternary main_v18 main_v57 main_v53 main_v58 ((fun x i u => Host.scatter scatter_S64x2047_S1_S64_0_1_1_0 FloatOps.addf x i u) : (⟨S64x2047, .f32⟩ : BufTy).Contents (Elt F) → (⟨S1, .i32⟩ : BufTy).Contents (Elt F) → (⟨S64, .f32⟩ : BufTy).Contents (Elt F) → (⟨S64x2047, .f32⟩ : BufTy).Contents (Elt F)),
   StableHlo.nullary main_cst_12 (constant S_ .f32 0x3F800000#32),
   StableHlo.unary main_cst_12 main_v59 (broadcastInDim S1 ![] bcast_S_S1 : (⟨S_, .f32⟩ : BufTy).Contents (Elt F) → (⟨S1, .f32⟩ : BufTy).Contents (Elt F)),
   StableHlo.binary main_v21 main_v59 main_v60 (addf : (⟨S1, .f32⟩ : BufTy).Contents (Elt F) → (⟨S1, .f32⟩ : BufTy).Contents (Elt F) → (⟨S1, .f32⟩ : BufTy).Contents (Elt F))]

/-- All of them. -/
def ops : List (HloOp τ sig (Elt F)) :=
  ops0 ++ (take (.of main_v23) (.of main_v28) main_call0 ++ (rows (.of main_arg1) (.of main_v29) main_call1 ++ (ops1 ++ (argmax (.of main_v35) main_call2 ++ (ops2 ++ (take (.of main_v23) (.of main_v28) main_call3 ++ (ops3 ++ (ops4))))))))

set_option maxHeartbeats 4000000 in
/-- The reference's first window is its pieces in order; -/
theorem part0_eq (d : Dev nD) : main_part0 (F := F) d = (do
    StableHlo.seq (ops0)
    StableHlo.seq (take (.of main_v23) (.of main_v28) main_call0)
    StableHlo.seq (rows (.of main_arg1) (.of main_v29) main_call1)
    StableHlo.seq (ops1)
    StableHlo.seq (argmax (.of main_v35) main_call2)
    StableHlo.seq (ops2)
    StableHlo.seq (take (.of main_v23) (.of main_v28) main_call3)
    StableHlo.seq (ops3)
    : Prog (TpuEff nD τ sig (Elt F) (Pipeline.Sig Λ₀ (Fin 0) fun p => (pcfgs (F := F) p).Adm) .tc) PUnit) := by
  rfl
/-- so is the second. -/
theorem part1_eq (d : Dev nD) : main_part1 (F := F) d = StableHlo.seq ops4 := rfl
/-- The reference is the list. -/
theorem main_eq (d : Dev nD) : main (F := F) d = StableHlo.seq ops := by
  unfold main ops
  rw [part0_eq, part1_eq]
  simp only [StableHlo.seq_append]
  rfl

/-! What each piece writes, and that it writes nothing else, takes nothing fresh and stays on the TensorCore. -/

def ops0W : List (Ref sig .tc) :=
  [main_cst, main_v0, main_v1, main_v2, main_v3, main_cst_0, main_v4, main_v5, main_v6, main_cst_1, main_v7, main_v8, main_v9, main_v10, main_v11, main_cst_2, main_v12, main_v13, main_v14, main_v15, main_cst_3, main_v16, main_v17, main_v18, main_cst_4, main_v19, main_v20, main_v21, main_v22, main_v23, main_v24, main_c, main_v25, main_v26, main_c_5, main_v27, main_v28]
theorem ops0_writes : (ops0 : List (HloOp τ sig (Elt F))).Forall fun op => op.writes ⊆ ((ops0W).map (Proc.devRef (τ := τ) .tc)).toFinset :=
  StableHlo.forall_writes_sub_of_map rfl
theorem ops0_fresh : (ops0 : List (HloOp τ sig (Elt F))).Forall fun op => op.fresh = ∅ :=
  StableHlo.forall_fresh_of_map rfl
theorem ops0_bufs : (ops0 : List (HloOp τ sig (Elt F))).Forall fun op => op.bufs ⊆ StableHlo.tcRefs τ sig := by
  simp only [ops0, List.Forall, StableHlo.TRef.nullary, StableHlo.TRef.unary, StableHlo.TRef.binary, StableHlo.TRef.ternary, StableHlo.TRef.quaternary,
    StableHlo.nullary_bufs_sub, StableHlo.unary_bufs_sub, StableHlo.binary_bufs_sub, StableHlo.ternary_bufs_sub, StableHlo.quaternary_bufs_sub, StableHlo.reshape_bufs_sub, and_self]

def ops1W : List (Ref sig .tc) :=
  [main_v31, main_v32, main_v33, main_v34, main_v35]
theorem ops1_writes : (ops1 : List (HloOp τ sig (Elt F))).Forall fun op => op.writes ⊆ ((ops1W).map (Proc.devRef (τ := τ) .tc)).toFinset :=
  StableHlo.forall_writes_sub_of_map rfl
theorem ops1_fresh : (ops1 : List (HloOp τ sig (Elt F))).Forall fun op => op.fresh = ∅ :=
  StableHlo.forall_fresh_of_map rfl
theorem ops1_bufs : (ops1 : List (HloOp τ sig (Elt F))).Forall fun op => op.bufs ⊆ StableHlo.tcRefs τ sig := by
  simp only [ops1, List.Forall, StableHlo.TRef.nullary, StableHlo.TRef.unary, StableHlo.TRef.binary, StableHlo.TRef.ternary, StableHlo.TRef.quaternary,
    StableHlo.nullary_bufs_sub, StableHlo.unary_bufs_sub, StableHlo.binary_bufs_sub, StableHlo.ternary_bufs_sub, StableHlo.quaternary_bufs_sub, StableHlo.reshape_bufs_sub, and_self]

def ops2W : List (Ref sig .tc) :=
  [main_v37]
theorem ops2_writes : (ops2 : List (HloOp τ sig (Elt F))).Forall fun op => op.writes ⊆ ((ops2W).map (Proc.devRef (τ := τ) .tc)).toFinset :=
  StableHlo.forall_writes_sub_of_map rfl
theorem ops2_fresh : (ops2 : List (HloOp τ sig (Elt F))).Forall fun op => op.fresh = ∅ :=
  StableHlo.forall_fresh_of_map rfl
theorem ops2_bufs : (ops2 : List (HloOp τ sig (Elt F))).Forall fun op => op.bufs ⊆ StableHlo.tcRefs τ sig := by
  simp only [ops2, List.Forall, StableHlo.TRef.nullary, StableHlo.TRef.unary, StableHlo.TRef.binary, StableHlo.TRef.ternary, StableHlo.TRef.quaternary,
    StableHlo.nullary_bufs_sub, StableHlo.unary_bufs_sub, StableHlo.binary_bufs_sub, StableHlo.ternary_bufs_sub, StableHlo.quaternary_bufs_sub, StableHlo.reshape_bufs_sub, and_self]

def ops3W : List (Ref sig .tc) :=
  [main_c_6, main_v39, main_v40, main_v41, main_c_7, main_v42, main_v43, main_c_8, main_v44, main_v45, main_v46, main_v47, main_v48]
theorem ops3_writes : (ops3 : List (HloOp τ sig (Elt F))).Forall fun op => op.writes ⊆ ((ops3W).map (Proc.devRef (τ := τ) .tc)).toFinset :=
  StableHlo.forall_writes_sub_of_map rfl
theorem ops3_fresh : (ops3 : List (HloOp τ sig (Elt F))).Forall fun op => op.fresh = ∅ :=
  StableHlo.forall_fresh_of_map rfl
theorem ops3_bufs : (ops3 : List (HloOp τ sig (Elt F))).Forall fun op => op.bufs ⊆ StableHlo.tcRefs τ sig := by
  simp only [ops3, List.Forall, StableHlo.TRef.nullary, StableHlo.TRef.unary, StableHlo.TRef.binary, StableHlo.TRef.ternary, StableHlo.TRef.quaternary,
    StableHlo.nullary_bufs_sub, StableHlo.unary_bufs_sub, StableHlo.binary_bufs_sub, StableHlo.ternary_bufs_sub, StableHlo.quaternary_bufs_sub, StableHlo.reshape_bufs_sub, and_self]

def ops4W : List (Ref sig .tc) :=
  [main_v49, main_v50, main_c_9, main_v51, main_v52, main_v53, main_c_10, main_v54, main_c_11, main_v55, main_v56, main_v57, main_v58, main_cst_12, main_v59, main_v60]
theorem ops4_writes : (ops4 : List (HloOp τ sig (Elt F))).Forall fun op => op.writes ⊆ ((ops4W).map (Proc.devRef (τ := τ) .tc)).toFinset :=
  StableHlo.forall_writes_sub_of_map rfl
theorem ops4_fresh : (ops4 : List (HloOp τ sig (Elt F))).Forall fun op => op.fresh = ∅ :=
  StableHlo.forall_fresh_of_map rfl
theorem ops4_bufs : (ops4 : List (HloOp τ sig (Elt F))).Forall fun op => op.bufs ⊆ StableHlo.tcRefs τ sig := by
  simp only [ops4, List.Forall, StableHlo.TRef.nullary, StableHlo.TRef.unary, StableHlo.TRef.binary, StableHlo.TRef.ternary, StableHlo.TRef.quaternary,
    StableHlo.nullary_bufs_sub, StableHlo.unary_bufs_sub, StableHlo.binary_bufs_sub, StableHlo.ternary_bufs_sub, StableHlo.quaternary_bufs_sub, StableHlo.reshape_bufs_sub, and_self]

def takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.c_3.ref, φ.v11.ref, φ.v12.ref, φ.v13.ref, φ.c_4.ref, φ.v14.ref, φ.v15.ref]
theorem take_writes (arg0 : StableHlo.TRef sig ⟨S64x2048, .i32⟩) (arg1 : StableHlo.TRef sig ⟨S1, .i32⟩) (φ : fn_take.Bufs) : (take arg0 arg1 φ : List (HloOp τ sig (Elt F))).Forall fun op => op.writes ⊆ ((takeW φ).map (Proc.devRef (τ := τ) .tc)).toFinset :=
  StableHlo.forall_writes_sub_of_map rfl
theorem take_fresh (arg0 : StableHlo.TRef sig ⟨S64x2048, .i32⟩) (arg1 : StableHlo.TRef sig ⟨S1, .i32⟩) (φ : fn_take.Bufs) : (take arg0 arg1 φ : List (HloOp τ sig (Elt F))).Forall fun op => op.fresh = ∅ :=
  StableHlo.forall_fresh_of_map rfl
theorem take_bufs (arg0 : StableHlo.TRef sig ⟨S64x2048, .i32⟩) (arg1 : StableHlo.TRef sig ⟨S1, .i32⟩) (φ : fn_take.Bufs) : (take arg0 arg1 φ : List (HloOp τ sig (Elt F))).Forall fun op => op.bufs ⊆ StableHlo.tcRefs τ sig := by
  simp only [take, List.Forall, StableHlo.TRef.nullary, StableHlo.TRef.unary, StableHlo.TRef.binary, StableHlo.TRef.ternary, StableHlo.TRef.quaternary,
    StableHlo.nullary_bufs_sub, StableHlo.unary_bufs_sub, StableHlo.binary_bufs_sub, StableHlo.ternary_bufs_sub, StableHlo.quaternary_bufs_sub, StableHlo.reshape_bufs_sub, and_self]

def rowsW (φ : fn_take_0.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref]
theorem rows_writes (arg0 : StableHlo.TRef sig ⟨S100000x128, .f32⟩) (arg1 : StableHlo.TRef sig ⟨S64x1, .i32⟩) (φ : fn_take_0.Bufs) : (rows arg0 arg1 φ : List (HloOp τ sig (Elt F))).Forall fun op => op.writes ⊆ ((rowsW φ).map (Proc.devRef (τ := τ) .tc)).toFinset :=
  StableHlo.forall_writes_sub_of_map rfl
theorem rows_fresh (arg0 : StableHlo.TRef sig ⟨S100000x128, .f32⟩) (arg1 : StableHlo.TRef sig ⟨S64x1, .i32⟩) (φ : fn_take_0.Bufs) : (rows arg0 arg1 φ : List (HloOp τ sig (Elt F))).Forall fun op => op.fresh = ∅ :=
  StableHlo.forall_fresh_of_map rfl
theorem rows_bufs (arg0 : StableHlo.TRef sig ⟨S100000x128, .f32⟩) (arg1 : StableHlo.TRef sig ⟨S64x1, .i32⟩) (φ : fn_take_0.Bufs) : (rows arg0 arg1 φ : List (HloOp τ sig (Elt F))).Forall fun op => op.bufs ⊆ StableHlo.tcRefs τ sig := by
  simp only [rows, List.Forall, StableHlo.TRef.nullary, StableHlo.TRef.unary, StableHlo.TRef.binary, StableHlo.TRef.ternary, StableHlo.TRef.quaternary,
    StableHlo.nullary_bufs_sub, StableHlo.unary_bufs_sub, StableHlo.binary_bufs_sub, StableHlo.ternary_bufs_sub, StableHlo.quaternary_bufs_sub, StableHlo.reshape_bufs_sub, and_self]

def argmaxW (φ : fn_argmax.Bufs) : List (Ref sig .tc) :=
  [φ.v0.ref, φ.cst.ref, φ.c.ref, φ.v1_0.ref, φ.v1_1.ref]
theorem argmax_writes (arg0 : StableHlo.TRef sig ⟨S64x100000, .f32⟩) (φ : fn_argmax.Bufs) : (argmax arg0 φ : List (HloOp τ sig (Elt F))).Forall fun op => op.writes ⊆ ((argmaxW φ).map (Proc.devRef (τ := τ) .tc)).toFinset :=
  StableHlo.forall_writes_sub_of_map rfl
theorem argmax_fresh (arg0 : StableHlo.TRef sig ⟨S64x100000, .f32⟩) (φ : fn_argmax.Bufs) : (argmax arg0 φ : List (HloOp τ sig (Elt F))).Forall fun op => op.fresh = ∅ :=
  StableHlo.forall_fresh_of_map rfl
theorem argmax_bufs (arg0 : StableHlo.TRef sig ⟨S64x100000, .f32⟩) (φ : fn_argmax.Bufs) : (argmax arg0 φ : List (HloOp τ sig (Elt F))).Forall fun op => op.bufs ⊆ StableHlo.tcRefs τ sig := by
  simp only [argmax, List.Forall, StableHlo.TRef.nullary, StableHlo.TRef.unary, StableHlo.TRef.binary, StableHlo.TRef.ternary, StableHlo.TRef.quaternary,
    StableHlo.nullary_bufs_sub, StableHlo.unary_bufs_sub, StableHlo.binary_bufs_sub, StableHlo.ternary_bufs_sub, StableHlo.quaternary_bufs_sub, StableHlo.reshape_bufs_sub, and_self]

theorem ops_fresh : (ops : List (HloOp τ sig (Elt F))).Forall fun op => op.fresh = ∅ :=
  (List.forall_append.mpr ⟨ops0_fresh, (List.forall_append.mpr ⟨(take_fresh (.of main_v23) (.of main_v28) main_call0), (List.forall_append.mpr ⟨(rows_fresh (.of main_arg1) (.of main_v29) main_call1), (List.forall_append.mpr ⟨ops1_fresh, (List.forall_append.mpr ⟨(argmax_fresh (.of main_v35) main_call2), (List.forall_append.mpr ⟨ops2_fresh, (List.forall_append.mpr ⟨(take_fresh (.of main_v23) (.of main_v28) main_call3), (List.forall_append.mpr ⟨ops3_fresh, ops4_fresh⟩)⟩)⟩)⟩)⟩)⟩)⟩)⟩)
theorem ops_bufs : (ops : List (HloOp τ sig (Elt F))).Forall fun op => op.bufs ⊆ StableHlo.tcRefs τ sig :=
  (List.forall_append.mpr ⟨ops0_bufs, (List.forall_append.mpr ⟨(take_bufs (.of main_v23) (.of main_v28) main_call0), (List.forall_append.mpr ⟨(rows_bufs (.of main_arg1) (.of main_v29) main_call1), (List.forall_append.mpr ⟨ops1_bufs, (List.forall_append.mpr ⟨(argmax_bufs (.of main_v35) main_call2), (List.forall_append.mpr ⟨ops2_bufs, (List.forall_append.mpr ⟨(take_bufs (.of main_v23) (.of main_v28) main_call3), (List.forall_append.mpr ⟨ops3_bufs, ops4_bufs⟩)⟩)⟩)⟩)⟩)⟩)⟩)⟩)

/-- The buffers after the first pieces; in the end, after all of them. -/
def at1 (V : Valuation τ sig (Elt F)) : Valuation τ sig (Elt F) := StableHlo.after (ops0) V
def at2 (V : Valuation τ sig (Elt F)) : Valuation τ sig (Elt F) := StableHlo.after (take (.of main_v23) (.of main_v28) main_call0) (at1 V)
def at3 (V : Valuation τ sig (Elt F)) : Valuation τ sig (Elt F) := StableHlo.after (rows (.of main_arg1) (.of main_v29) main_call1) (at2 V)
def at4 (V : Valuation τ sig (Elt F)) : Valuation τ sig (Elt F) := StableHlo.after (ops1) (at3 V)
def at5 (V : Valuation τ sig (Elt F)) : Valuation τ sig (Elt F) := StableHlo.after (argmax (.of main_v35) main_call2) (at4 V)
def at6 (V : Valuation τ sig (Elt F)) : Valuation τ sig (Elt F) := StableHlo.after (ops2) (at5 V)
def at7 (V : Valuation τ sig (Elt F)) : Valuation τ sig (Elt F) := StableHlo.after (take (.of main_v23) (.of main_v28) main_call3) (at6 V)
def at8 (V : Valuation τ sig (Elt F)) : Valuation τ sig (Elt F) := StableHlo.after (ops3) (at7 V)
def at9 (V : Valuation τ sig (Elt F)) : Valuation τ sig (Elt F) := StableHlo.after (ops4) (at8 V)
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _
theorem after_ops (V : Valuation τ sig (Elt F)) : StableHlo.after ops V = at9 V := by
  unfold ops
  simp only [after_append]
  rfl

theorem at1_of (V : Valuation τ sig (Elt F)) (r : Ref sig .tc) (h : r ∉ ops0W) :
    at1 V (Proc.devRef .tc r) = V (Proc.devRef .tc r) :=
  StableHlo.after_of_writes_sub _ _ ops0_writes h
theorem at2_of (V : Valuation τ sig (Elt F)) (r : Ref sig .tc) (h : r ∉ takeW main_call0) :
    at2 V (Proc.devRef .tc r) = at1 V (Proc.devRef .tc r) :=
  StableHlo.after_of_writes_sub _ _ (take_writes (.of main_v23) (.of main_v28) main_call0) h
theorem at3_of (V : Valuation τ sig (Elt F)) (r : Ref sig .tc) (h : r ∉ rowsW main_call1) :
    at3 V (Proc.devRef .tc r) = at2 V (Proc.devRef .tc r) :=
  StableHlo.after_of_writes_sub _ _ (rows_writes (.of main_arg1) (.of main_v29) main_call1) h
theorem at4_of (V : Valuation τ sig (Elt F)) (r : Ref sig .tc) (h : r ∉ ops1W) :
    at4 V (Proc.devRef .tc r) = at3 V (Proc.devRef .tc r) :=
  StableHlo.after_of_writes_sub _ _ ops1_writes h
theorem at5_of (V : Valuation τ sig (Elt F)) (r : Ref sig .tc) (h : r ∉ argmaxW main_call2) :
    at5 V (Proc.devRef .tc r) = at4 V (Proc.devRef .tc r) :=
  StableHlo.after_of_writes_sub _ _ (argmax_writes (.of main_v35) main_call2) h
theorem at6_of (V : Valuation τ sig (Elt F)) (r : Ref sig .tc) (h : r ∉ ops2W) :
    at6 V (Proc.devRef .tc r) = at5 V (Proc.devRef .tc r) :=
  StableHlo.after_of_writes_sub _ _ ops2_writes h
theorem at7_of (V : Valuation τ sig (Elt F)) (r : Ref sig .tc) (h : r ∉ takeW main_call3) :
    at7 V (Proc.devRef .tc r) = at6 V (Proc.devRef .tc r) :=
  StableHlo.after_of_writes_sub _ _ (take_writes (.of main_v23) (.of main_v28) main_call3) h
theorem at8_of (V : Valuation τ sig (Elt F)) (r : Ref sig .tc) (h : r ∉ ops3W) :
    at8 V (Proc.devRef .tc r) = at7 V (Proc.devRef .tc r) :=
  StableHlo.after_of_writes_sub _ _ ops3_writes h
theorem at9_of (V : Valuation τ sig (Elt F)) (r : Ref sig .tc) (h : r ∉ ops4W) :
    at9 V (Proc.devRef .tc r) = at8 V (Proc.devRef .tc r) :=
  StableHlo.after_of_writes_sub _ _ ops4_writes h
/-- A reference no piece writes is at the end what it was. -/
theorem end_of (V : Valuation τ sig (Elt F)) (r : Ref sig .tc) (h1 : r ∉ ops0W) (h2 : r ∉ takeW main_call0) (h3 : r ∉ rowsW main_call1) (h4 : r ∉ ops1W) (h5 : r ∉ argmaxW main_call2) (h6 : r ∉ ops2W) (h7 : r ∉ takeW main_call3) (h8 : r ∉ ops3W) (h9 : r ∉ ops4W) :
    at9 V (Proc.devRef .tc r) = V (Proc.devRef .tc r) :=
  (at9_of V r h9).trans ((at8_of V r h8).trans ((at7_of V r h7).trans ((at6_of V r h6).trans ((at5_of V r h5).trans ((at4_of V r h4).trans ((at3_of V r h3).trans ((at2_of V r h2).trans ((at1_of V r h1)))))))))

/-- The reference runs to the last piece's contents, and no counter moves. -/
theorem run (m : (ℓ : Loc nD τ sig) → Buf (Elt F) ℓ) (ρ : Dev nD → PrngReg) :
    θ_run defs (onTc (τ := τ) (main (F := F))) ⟨m, fun _ => 0, ρ⟩ (fun r => (∀ (c : Dev nD) (b : Ref sig .tc),
      r.2.mem ((c.tc : Thread nD τ).loc b) = at9 (StableHlo.launchContents m c) (Proc.devRef .tc b)) ∧ r.2.sem = fun _ => 0) :=
  (θ_run _ _ _).mono (fun r h => ⟨fun c b => (h c b).trans (congrFun (after_ops _) _), sem_eq_zero_of_no_sems (by decide) r.2⟩)
    (StableHlo.run_hlo defs main main_eq (by decide) (by decide) ops_bufs (List.forall_iff_forall_mem.mp ops_fresh) m ρ)

/-- An argument ends unchanged. -/
theorem args (V : Valuation τ sig (Elt F)) :
    at9 V (Proc.devRef .tc main_arg0) = V (Proc.devRef .tc main_arg0) ∧ at9 V (Proc.devRef .tc main_arg1) = V (Proc.devRef .tc main_arg1)
    ∧ at9 V (Proc.devRef .tc main_arg2) = V (Proc.devRef .tc main_arg2) ∧ at9 V (Proc.devRef .tc main_arg3) = V (Proc.devRef .tc main_arg3)
    ∧ at9 V (Proc.devRef .tc main_arg4) = V (Proc.devRef .tc main_arg4) ∧ at9 V (Proc.devRef .tc main_arg5) = V (Proc.devRef .tc main_arg5) := by
  refine ⟨end_of V main_arg0 ?_ ?_ ?_ ?_ ?_ ?_ ?_ ?_ ?_, end_of V main_arg1 ?_ ?_ ?_ ?_ ?_ ?_ ?_ ?_ ?_, end_of V main_arg2 ?_ ?_ ?_ ?_ ?_ ?_ ?_ ?_ ?_,
    end_of V main_arg3 ?_ ?_ ?_ ?_ ?_ ?_ ?_ ?_ ?_, end_of V main_arg4 ?_ ?_ ?_ ?_ ?_ ?_ ?_ ?_ ?_, end_of V main_arg5 ?_ ?_ ?_ ?_ ?_ ?_ ?_ ?_ ?_⟩ <;> decide

end Cert.ReferenceIdeal.Hand

end
-- ==== Proof.Frames.lean ====
/-
  The frames and the sanctioned rewrite, as the certificate states them.
-/
module

public import proofs.«01_k».proof.Defs
public import proofs.«01_k».proof.Proof.Pre
public import proofs.«01_k».proof.Proof.KI.Bound
public import proofs.«01_k».proof.Proof.KB.Bound
public import proofs.«01_k».proof.Proof.RI.Run

@[expose] public section

noncomputable section

namespace Cert.Proof

open Idealize.ShloMosaic Idealize.SL.Sem

/-- The first precondition's shape facts. -/
theorem factsIds : Cert.Pre_token_ids_in_range.Facts := ⟨by decide, by decide, by decide⟩

/-- The kernel runs and leaves its arguments; -/
theorem frame_kernel : Cert.quiescent_Kernel (hKernel := Cert.Kernel.Gen.facts) (hPre_token_ids_in_range := factsIds) := by
  intro m g h
  letI := factsIds
  exact Cert.Kernel.Hand.frame m g (Cert.Kernel.Hand.words_ok m (fun c => (Cert.Pre.ids_of (h c)).1) fun c => (Cert.Pre.ids_of (h c)).2)

/-- so does its idealization, -/
theorem frame_ideal : Cert.quiescent_KernelIdeal (hKernelIdeal := Cert.KernelIdeal.Gen.facts) (hPre_token_ids_in_range := factsIds) := by
  intro m g h
  letI := factsIds
  exact Cert.KernelIdeal.Hand.frame m g (Cert.KernelIdeal.Hand.words_ok m (fun c => (Cert.Pre.ids_of (h c)).1) fun c => (Cert.Pre.ids_of (h c)).2)

/-- so does the reference, from any memory. -/
theorem frame_reference : Cert.quiescent_ReferenceIdeal (hReferenceIdeal := Cert.ReferenceIdeal.Gen.facts) := by
  intro m g _
  refine (θ_run _ _ _).mono (fun r h => ⟨fun c => ?_, h.2⟩) (Cert.ReferenceIdeal.Hand.run m g)
  obtain ⟨a0, a1, a2, a3, a4, a5⟩ := Cert.ReferenceIdeal.Hand.args (StableHlo.launchContents m c)
  exact ⟨(h.1 c _).trans a0, (h.1 c _).trans a1, (h.1 c _).trans a2, (h.1 c _).trans a3, (h.1 c _).trans a4, (h.1 c _).trans a5⟩

/-- The named constant is the table's. -/
theorem preserves : Cert.preserves_Kernel_KernelIdeal :=
  IdealRules.named_const.statement Cert.KernelIdeal.κ "neg" .f32 0xF149F2CA#32 ⊥ rfl

end Cert.Proof

end
-- ==== Proof.PreState.lean ====
/-
  What the second precondition adds to the first: the decoding step is a whole number or past the last column.
-/
module

public import proofs.«01_k».proof.Pre_decoding_state
public import proofs.«01_k».proof.Proof.Pre

@[expose] public section

noncomputable section

namespace Cert.Pre

open Idealize.ShloMosaic Idealize.ShloMosaic.StableHlo.Predicate

variable {F : FTy → Type} [FloatOps F]

section State

open Cert.Pre_decoding_state

variable [Cert.Pre_decoding_state.Facts]
  {a0 : IVec S64x1 32} {a1 : FVec F S100000x128 .f32} {a2 : FVec F S128x100000 .f32} {a3 : FVec F S100000 .f32}
  {a4 : FVec F S64x2047 .f32} {a5 : FVec F S1 .f32}

/-- A one-element vector spread over the buffer's shape holds its element everywhere. -/
theorem bc {α : Type} (v : S1.Idx → α) (i : S1.Idx) (j : S64x2047.Idx) :
    broadcastInDim S64x2047 ![0, 1] Facts.bcast_S1x1_S64x2047_0_1 (broadcastInDim S1x1 ![1] Facts.bcast_S1_S1x1_1 v) j = v i :=
  congrArg v (funext fun a => match a with | ⟨0, _⟩ => Subsingleton.elim (α := Fin 1) _ _)

/-- Where the second holds, moreover the step passes its test: past the last column, or a whole number at least 0. -/
theorem state_of (h : fn a0 a1 a2 a3 a4 a5 = fun _ => 1#1) :
    ((∀ i, (a0 i).toNat < 100000) ∧ ∀ j, (fptosi 32 a4 j : BitVec 32).toNat < 100000) ∧
    ∀ i, (cmpf .oge a5 (fun _ => FloatOps.ofBits .f32 0x44FFE000#32) i ||| (cmpf .oge a5 (fun _ => FloatOps.ofBits .f32 0x00000000#32) i &&& cmpf .oeq (Host.floor a5) a5 i)) = 1#1 := by
  have key : ∀ j : S64x2047.Idx, _ := fun j => by
    have hj := congrFun h j
    obtain ⟨h1, h0⟩ := both hj
    obtain ⟨h1, h2⟩ := both h1
    obtain ⟨h3, h4⟩ := both h1
    exact And.intro h0 (And.intro h3 (in_range (w := fptosi 32 a4 j) h4 h2))
  refine ⟨⟨fun i => ?_, fun j => (key j).2.2⟩, fun i => ?_⟩
  · have h3 := (bcast_of_col (n := 64) (m := 2047) Facts.bcast_S64x1_S64x2047_0_1 _ (i 0) 0).symm.trans (key (ij (i 0) (0 : Fin 2047))).2.1
    obtain ⟨h5, h6⟩ := both h3
    have hi : (ixP (n := 64) (i 0) : S64x1.Idx) = i := by
      funext a
      match a with
      | ⟨0, _⟩ => rfl
      | ⟨1, _⟩ => exact (Fin.eq_zero _).symm
    exact hi ▸ in_range (w := a0 (ixP (n := 64) (i 0))) h5 h6
  · have h0 := (key (ij (0 : Fin 64) (0 : Fin 2047))).1
    rw [bc _ i] at h0
    exact h0

end State

end Cert.Pre

end
-- ==== Proof.FramesState.lean ====
/-
  The frames again, under the second precondition.
-/
module

public import proofs.«01_k».proof.Proof.Frames
public import proofs.«01_k».proof.Proof.PreState

@[expose] public section

noncomputable section

namespace Cert.Proof

open Idealize.ShloMosaic Idealize.SL.Sem

/-- The second precondition's shape facts. -/
theorem factsState : Cert.Pre_decoding_state.Facts := ⟨by decide, by decide, by decide, by decide, by decide, by decide⟩

/-- The idealized kernel runs and leaves its arguments from a decoding state, -/
theorem frame_ideal_state : Cert.quiescent_KernelIdeal_pre_decoding_state (hKernelIdeal := Cert.KernelIdeal.Gen.facts) (hPre_decoding_state := factsState) := by
  intro m g h
  letI := factsState
  exact Cert.KernelIdeal.Hand.frame m g (Cert.KernelIdeal.Hand.words_ok m (fun c => (Cert.Pre.state_of (h c)).1.1) fun c => (Cert.Pre.state_of (h c)).1.2)

/-- and so does the reference. -/
theorem frame_reference_state : Cert.quiescent_ReferenceIdeal_pre_decoding_state (hReferenceIdeal := Cert.ReferenceIdeal.Gen.facts) (hPre_decoding_state := factsState) :=
  fun m g _ => frame_reference m g trivial

end Cert.Proof

end
-- ==== Proof.Value.Blocks.lean ====
/-
  The block of the partial arg-max call's windows at a grid point, read at an index.
-/
module

public import proofs.«01_k».proof.Proof.KI.Region1
public import Idealize.ShloMosaic.Lib.Pointwise

@[expose] public section

noncomputable section

namespace Cert.Value

open Idealize.ShloMosaic Idealize.ShloMosaic.TcCoe
open Cert.KernelIdeal Cert.KernelIdeal.Gen Cert.KernelIdeal.Hand

variable {F : FTy → Type} [FloatOps F] [Named F]

/-- The block index at a point, of the windows that move, and its offset. -/
theorem coords_val (t : Fin 13) : (grid1.coords t 0).val = t.val := by fin_cases t <;> rfl
theorem lane_lt (t : Fin 13) (l : Fin 128) : 128 * t.val + l.val < 1664 := by omega
theorem col_lt (t : Fin 13) (k : Fin 8192) : 8192 * t.val + k.val < 106496 := by omega
theorem map_eq (t : Fin 13) : (BitVec.ofNat 32 (grid1.coords t 0).val).toNat = t.val := by
  rw [coords_val, BitVec.toNat_ofNat, Nat.mod_eq_of_lt (by omega)]

theorem emb3 (t : Fin 13) (r : Fin 64) (l : Fin 128) : (win1_3.blk t).view.emb (ix2 r l) = ix2 r ⟨128 * t.val + l.val, lane_lt t l⟩ := by
  funext a
  apply Fin.ext
  match a with
  | ⟨0, _⟩ => show 0 * 64 + 1 * r.val = r.val; omega
  | ⟨1, _⟩ =>
    show (BitVec.ofNat 32 (grid1.coords t 0).val).toNat * 128 + 1 * l.val = 128 * t.val + l.val
    rw [map_eq]; omega

theorem emb4 (t : Fin 13) (r : Fin 64) (l : Fin 128) : (win1_4.blk t).view.emb (ix2 r l) = ix2 r ⟨128 * t.val + l.val, lane_lt t l⟩ := by
  funext a
  apply Fin.ext
  match a with
  | ⟨0, _⟩ => show 0 * 64 + 1 * r.val = r.val; omega
  | ⟨1, _⟩ =>
    show (BitVec.ofNat 32 (grid1.coords t 0).val).toNat * 128 + 1 * l.val = 128 * t.val + l.val
    rw [map_eq]; omega

variable (V : Valuation τ sig (Elt F))

/-- The activations' block is the whole of them, -/
theorem bk0_at (t : Fin 13) (r : Fin 64) (k : Fin 128) : bk0 V t (ix2 r k) = (V main_v20 : Vec F S64x128 .f32) (ix2 r k) := by
  refine congrArg (V main_v20 : Vec F S64x128 .f32) (funext fun a => Fin.ext ?_)
  match a with
  | ⟨0, _⟩ => show 0 * 64 + 1 * r.val = r.val; omega
  | ⟨1, _⟩ => show 0 * 128 + 1 * k.val = k.val; omega

/-- the biases' its eight thousand or so columns, -/
theorem bk2_at (t : Fin 13) (k : Fin 8192) : bk2 V t (ix2 (0 : Fin 1) k) = (V main_v19 : Vec F S1x106496 .f32) (ix2 (0 : Fin 1) ⟨8192 * t.val + k.val, col_lt t k⟩) := by
  refine congrArg (V main_v19 : Vec F S1x106496 .f32) (funext fun a => Fin.ext ?_)
  match a with
  | ⟨0, _⟩ => rfl
  | ⟨1, _⟩ =>
    show (BitVec.ofNat 32 (grid1.coords t 0).val).toNat * 8192 + 1 * k.val = 8192 * t.val + k.val
    rw [map_eq]; omega

theorem size_rows (t : Fin 13) : win1_1.xsize (grid1.coords t) 0 = 128 := by fin_cases t <;> rfl
theorem size_cols (t : Fin 13) : win1_1.xsize (grid1.coords t) 1 = min 8192 (100000 - 8192 * t.val) := by
  show (Pipeline.Clip.of (BitVec.ofNat 32 (grid1.coords t 0).val).toNat 8192 100000).extent 8192 = _
  rw [map_eq]
  unfold Pipeline.Clip.of
  split
  · show 8192 = _; omega
  · show 100000 - t.val * 8192 = _; omega

/-- and the weights', at a column of the array, that column. -/
theorem bk1_at (t : Fin 13) (d) (a : Fin 128) (k : Fin 8192) (h : 8192 * t.val + k.val < 100000) :
    bk1 V t d (ix2 a k) = (V main_arg2 : Vec F S128x100000 .f32) (ix2 a ⟨8192 * t.val + k.val, h⟩) := by
  have hm : win1_1.moved (grid1.coords t) (ix2 a k) = true := (win1_1.moved_iff _ _).mpr fun b => by
    match b with
    | ⟨0, _⟩ => exact lt_of_lt_of_eq a.isLt (size_rows t).symm
    | ⟨1, _⟩ => exact lt_of_lt_of_eq (show k.val < min 8192 (100000 - 8192 * t.val) by omega) (size_cols t).symm
  unfold bk1 Pipeline.Dat.fetched Pipeline.Window.fill
  rw [dif_pos hm]
  refine congrArg (V main_arg2 : Vec F S128x100000 .f32) (funext fun b => Fin.ext ?_)
  match b with
  | ⟨0, _⟩ => show 0 * 128 + 1 * a.val = a.val; omega
  | ⟨1, _⟩ =>
    show (BitVec.ofNat 32 (grid1.coords t 0).val).toNat * 8192 + 1 * k.val = 8192 * t.val + k.val
    rw [map_eq]; omega

end Cert.Value

end
-- ==== Proof.Value.Fold.lean ====
/-
  Folds of an operation that chooses one of its two operands: a maximum, a signed minimum, and the greater of two
  (value, position) pairs with ties to the smaller position.
-/
module

public import Idealize.ShloMosaic.PureOps.Ideal.Laws
public import Idealize.ShloMosaic.PureOps.Reduce
public import Idealize.ShloMosaic.Lib.Pointwise

@[expose] public section

namespace Cert.Value

open Idealize.ShloMosaic

/-- A fold of a choosing operation yields the start or an element, and is related to each of them. -/
theorem foldl_choice {α : Type} (op : α → α → α) (le : α → α → Prop) (refl : ∀ a, le a a) (trans : ∀ a b c, le a b → le b c → le a c)
    (sel : ∀ a b, op a b = a ∨ op a b = b) (left : ∀ a b, le (op a b) a) (right : ∀ a b, le (op a b) b) (l : List α) :
    ∀ a, (l.foldl op a = a ∨ l.foldl op a ∈ l) ∧ le (l.foldl op a) a ∧ ∀ x ∈ l, le (l.foldl op a) x := by
  induction l with
  | nil => exact fun a => ⟨.inl rfl, refl a, fun x hx => absurd hx (List.not_mem_nil)⟩
  | cons y l ih =>
    intro a
    obtain ⟨h1, h2, h3⟩ := ih (op a y)
    refine ⟨?_, trans _ _ _ h2 (left a y), fun x hx => ?_⟩
    · rcases h1 with h1 | h1
      · rcases sel a y with e | e
        · exact .inl (h1.trans e)
        · exact .inr (by rw [List.foldl_cons, h1, e]; exact List.mem_cons_self)
      · exact .inr (List.mem_cons_of_mem _ h1)
    · rcases List.mem_cons.mp hx with rfl | hx
      · exact trans _ _ _ h2 (right a x)
      · exact h3 x hx

/-- The same of a reduction's fold at a result index. -/
theorem reduce_choice {α : Type} {s t : Shape} {axes : List (Fin s.rank)} (h : s.Reduces axes t) (op : α → α → α) (le : α → α → Prop)
    (refl : ∀ a, le a a) (trans : ∀ a b c, le a b → le b c → le a c) (sel : ∀ a b, op a b = a ∨ op a b = b)
    (left : ∀ a b, le (op a b) a) (right : ∀ a b, le (op a b) b) (a : α) (x : s.Idx → α) (j : t.Idx) :
    (reduceFold h op a x j = a ∨ ∃ i, h.drop i = j ∧ reduceFold h op a x j = x i) ∧ le (reduceFold h op a x j) a
      ∧ ∀ i, h.drop i = j → le (reduceFold h op a x j) (x i) := by
  have e : reduceFold h op a x j = (((List.finRange s.numel).filter fun n => h.drop (s.rowMajor.symm n) = j).map fun n => x (s.rowMajor.symm n)).foldl op a := by
    rw [List.foldl_map]; rfl
  obtain ⟨h1, h2, h3⟩ := foldl_choice op le refl trans sel left right
    (((List.finRange s.numel).filter fun n => h.drop (s.rowMajor.symm n) = j).map fun n => x (s.rowMajor.symm n)) a
  rw [← e] at h1 h2 h3
  refine ⟨h1.imp_right fun hm => ?_, h2, fun i hi => h3 _ (List.mem_map.mpr ⟨s.rowMajor i, ?_, by rw [Equiv.symm_apply_apply]⟩)⟩
  · obtain ⟨n, hn, en⟩ := List.mem_map.mp hm
    exact ⟨_, of_decide_eq_true (List.mem_filter.mp hn).2, en.symm⟩
  · exact List.mem_filter.mpr ⟨List.mem_finRange _, decide_eq_true (by rw [Equiv.symm_apply_apply]; exact hi)⟩

/-- Signed minimum chooses, and is at most both. -/
theorem minsi_sel (a b : BitVec 32) : IntOp.minsi a b = a ∨ IntOp.minsi a b = b := by
  unfold IntOp.minsi; split
  · exact .inl rfl
  · exact .inr rfl
theorem minsi_left (a b : BitVec 32) : (IntOp.minsi a b).toInt ≤ a.toInt := by
  unfold IntOp.minsi; split
  · exact le_refl _
  · next h => rw [BitVec.slt_iff_toInt_lt] at h; omega
theorem minsi_right (a b : BitVec 32) : (IntOp.minsi a b).toInt ≤ b.toInt := by
  unfold IntOp.minsi; split
  · next h => rw [BitVec.slt_iff_toInt_lt] at h; omega
  · exact le_refl _

section Rows

variable {n k : Nat}

/-- Dropping the lanes of a rank-two index leaves its row. -/
theorem drop_row (h : (⟨2, ![n, k]⟩ : Shape).Reduces [1] ⟨1, ![n]⟩) (i : (⟨2, ![n, k]⟩ : Shape).Idx) (r : Fin n) :
    h.drop i = (ix1 r) ↔ i 0 = r := by
  have e : ∀ b, (h.drop i b).val = (i 0).val := fun b => by
    obtain ⟨b, hb⟩ := b
    obtain rfl : b = 0 := by change b < 1 at hb; omega
    exact h.drop_apply_val_of_eq i ⟨0, Nat.one_pos⟩ 0 Nat.one_pos rfl
  constructor
  · exact fun hd => Fin.ext ((e ⟨0, Nat.one_pos⟩).symm.trans (congrArg Fin.val (congrFun hd ⟨0, Nat.one_pos⟩)))
  · intro hr
    funext b
    match b with
    | ⟨0, _⟩ => exact Fin.ext ((e _).trans (congrArg Fin.val hr))

/-- A row's maximum from minus infinity: attained unless minus infinity, and at least every lane. -/
theorem max_row (h : (⟨2, ![n, k]⟩ : Shape).Reduces [1] ⟨1, ![n]⟩) (hφ) (hacc) (x : FVec Ideal ⟨2, ![n, k]⟩ .f32) (r : Fin n) :
    (multiReduction .maximumf [1] ⟨1, ![n]⟩ x 0xFF800000#32 h hφ hacc (ix1 r) = (⊥ : EReal)
        ∨ ∃ c, multiReduction .maximumf [1] ⟨1, ![n]⟩ x 0xFF800000#32 h hφ hacc (ix1 r) = x (ix2 r c))
      ∧ ∀ c, x (ix2 r c) ≤ (multiReduction .maximumf [1] ⟨1, ![n]⟩ x 0xFF800000#32 h hφ hacc (ix1 r) : EReal) := by
  rw [multiReduction_maximumf_eq_reduceFold]
  have hb : (FloatOps.ofBits .f32 0xFF800000#32 : Ideal .f32) = (⊥ : EReal) := by
    show Ideal.ofBits .f32 0xFF800000#32 = ⊥
    simp [Ideal.ofBits, Ideal.ieee]
  rw [hb]
  obtain ⟨h1, -, h3⟩ := reduce_choice h (FloatOps.maximumf : Ideal .f32 → Ideal .f32 → Ideal .f32) (fun a b => (b : EReal) ≤ a)
    (fun a => le_refl _) (fun a b c h h' => le_trans h' h) (fun a b => max_choice (a : EReal) b) (fun a b => le_max_left (a : EReal) b)
    (fun a b => le_max_right (a : EReal) b) (⊥ : EReal) x (ix1 r)
  refine ⟨h1.imp_right fun ⟨i, hi, e⟩ => ⟨i 1, e.trans (congrArg x ((eq_ix2 i).trans (congrArg (fun q => ix2 q (i 1)) ((drop_row h i r).mp hi))))⟩, fun c => h3 (ix2 r c) ((drop_row h _ r).mpr rfl)⟩

/-- A row's signed minimum from the largest word: that word or a lane, and at most every lane. -/
theorem min_row (h : (⟨2, ![n, k]⟩ : Shape).Reduces [1] ⟨1, ![n]⟩) (hacc) (x : IVec ⟨2, ![n, k]⟩ 32) (r : Fin n) :
    (multiReductionI .minsi [1] ⟨1, ![n]⟩ x 2147483647#32 h hacc (ix1 r) = 2147483647#32
        ∨ ∃ c, multiReductionI .minsi [1] ⟨1, ![n]⟩ x 2147483647#32 h hacc (ix1 r) = x (ix2 r c))
      ∧ ∀ c, (multiReductionI .minsi [1] ⟨1, ![n]⟩ x 2147483647#32 h hacc (ix1 r)).toInt ≤ (x (ix2 r c)).toInt := by
  rw [multiReductionI_eq_reduceFold]
  obtain ⟨h1, -, h3⟩ := reduce_choice h IKind.minsi.op (fun a b => a.toInt ≤ b.toInt)
    (fun a => le_refl _) (fun a b c h h' => le_trans h h') minsi_sel minsi_left minsi_right 2147483647#32 x (ix1 r)
  refine ⟨h1.imp_right fun ⟨i, hi, e⟩ => ⟨i 1, e.trans (congrArg x ((eq_ix2 i).trans (congrArg (fun q => ix2 q (i 1)) ((drop_row h i r).mp hi))))⟩, fun c => h3 (ix2 r c) ((drop_row h _ r).mpr rfl)⟩

end Rows

end Cert.Value
-- ==== Proof.Value.Argmax.lean ====
/-
  The first position of a row's greatest entry: as the partial maxima and positions of thirteen blocks merged, and as a
  fold of (value, position) pairs.
-/
module

public import proofs.«01_k».proof.Proof.Value.Fold

@[expose] public section

namespace Cert.Value

open Idealize.ShloMosaic

/-- The word `w` is the first position of the greatest entry of `L`. -/
def IsArg {N : Nat} (L : Fin N → EReal) (w : BitVec 32) : Prop :=
  ∃ n : Fin N, w = BitVec.ofNat 32 n.val ∧ (∀ k, L k ≤ L n) ∧ ∀ k, L k = L n → n.val ≤ k.val

/-- There is only one. -/
theorem IsArg.unique {N : Nat} {L : Fin N → EReal} {w w' : BitVec 32} (h : IsArg L w) (h' : IsArg L w') : w = w' := by
  obtain ⟨n, rfl, hn, fn⟩ := h
  obtain ⟨n', rfl, hn', fn'⟩ := h'
  have e : L n = L n' := le_antisymm (hn' n) (hn n')
  rw [show n.val = n'.val from le_antisymm (fn n' e.symm) (fn' n e)]

/-- There is one. -/
theorem exists_first {N : Nat} (hN : 0 < N) (L : Fin N → EReal) : ∃ n : Fin N, (∀ k, L k ≤ L n) ∧ ∀ k, L k = L n → n.val ≤ k.val := by
  classical
  haveI : Nonempty (Fin N) := ⟨⟨0, hN⟩⟩
  obtain ⟨a, ha⟩ := Finite.exists_max L
  obtain ⟨n, hn, hmin⟩ := (Finset.univ.filter fun k => L k = L a).exists_min_image (fun k => k.val) ⟨a, by simp⟩
  have e : L n = L a := (Finset.mem_filter.mp hn).2
  exact ⟨n, fun k => e ▸ ha k, fun k hk => hmin k (Finset.mem_filter.mpr ⟨Finset.mem_univ _, hk.trans e⟩)⟩

theorem toInt_small {n : Nat} (h : n < 2 ^ 31) : (BitVec.ofNat 32 n).toInt = n := by
  rw [BitVec.toInt_eq_toNat_cond, BitVec.toNat_ofNat, Nat.mod_eq_of_lt (by omega), if_pos (by omega)]

/-- Blocks' maxima and first positions, past the row's end minus infinity, merged. -/
theorem merge_isArg {ι : Type} (q : ι → Fin 13) (hq : ∀ t, ∃ c, q c = t) (L : Fin 100000 → EReal) (X : Fin 13 → Fin 8192 → EReal)
    (hX : ∀ t k (h : 8192 * t.val + k.val < 100000), X t k = L ⟨8192 * t.val + k.val, h⟩)
    (hX' : ∀ t k, ¬ 8192 * t.val + k.val < 100000 → X t k = ⊥)
    (M : Fin 13 → EReal) (hM : ∀ t, M t = ⊥ ∨ ∃ k, M t = X t k) (hM' : ∀ t k, X t k ≤ M t)
    (I : Fin 13 → BitVec 32)
    (hI : ∀ t, I t = 2147483647#32 ∨ ∃ k, I t = if X t k = M t then BitVec.ofNat 32 (8192 * t.val + k.val) else 100000#32)
    (hI' : ∀ t k, (I t).toInt ≤ (if X t k = M t then BitVec.ofNat 32 (8192 * t.val + k.val) else 100000#32).toInt)
    (G : EReal) (hG : G = ⊥ ∨ ∃ c, G = M (q c)) (hG' : ∀ c, M (q c) ≤ G)
    (J : BitVec 32) (hJ : J = 2147483647#32 ∨ ∃ c, J = if M (q c) = G then I (q c) else 100000#32)
    (hJ' : ∀ c, J.toInt ≤ (if M (q c) = G then I (q c) else 100000#32).toInt) : IsArg L J := by
  obtain ⟨n, hn, fn⟩ := exists_first (by decide) L
  have hb1 : (2147483647#32).toInt = 2147483647 := rfl
  have hb2 : (100000#32).toInt = 100000 := rfl
  have nlt := n.isLt
  have hXle : ∀ t k, X t k ≤ L n := fun t k => by
    by_cases h : 8192 * t.val + k.val < 100000
    · exact hX t k h ▸ hn _
    · exact hX' t k h ▸ bot_le
  have hXn : ∀ t k, X t k = L n → n.val ≤ 8192 * t.val + k.val := fun t k e => by
    by_cases h : 8192 * t.val + k.val < 100000
    · exact fn _ ((hX t k h).symm.trans e)
    · omega
  have hk0 : 8192 * (n.val / 8192) + n.val % 8192 = n.val := Nat.div_add_mod _ _
  let t0 : Fin 13 := ⟨n.val / 8192, by omega⟩
  let k0 : Fin 8192 := ⟨n.val % 8192, Nat.mod_lt _ (by decide)⟩
  have hX0 : X t0 k0 = L n := (hX t0 k0 (by show 8192 * (n.val / 8192) + n.val % 8192 < _; omega)).trans (congrArg L (Fin.ext hk0))
  have hMle : ∀ t, M t ≤ L n := fun t => by
    rcases hM t with e | ⟨k, e⟩
    · exact e ▸ bot_le
    · exact e ▸ hXle t k
  have hM0 : M t0 = L n := le_antisymm (hMle t0) (hX0 ▸ hM' t0 k0)
  obtain ⟨c0, hc0⟩ := hq t0
  have hG0 : G = L n := by
    refine le_antisymm ?_ (by rw [← hM0, ← hc0]; exact hG' c0)
    rcases hG with e | ⟨c, e⟩
    · exact e ▸ bot_le
    · exact e ▸ hMle _
  have hIlow : ∀ t, M t = L n → (n.val : Int) ≤ (I t).toInt := fun t ht => by
    rcases hI t with e | ⟨k, e⟩
    · rw [e, hb1]; omega
    · rw [e]
      split
      · next h =>
        have := hXn t k (h.trans ht)
        have := t.isLt
        have := k.isLt
        rw [toInt_small (by omega)]
        omega
      · rw [hb2]; omega
  have hI0 : (I t0).toInt ≤ n.val := by
    refine (hI' t0 k0).trans ?_
    rw [if_pos (hX0.trans hM0.symm), show 8192 * t0.val + k0.val = n.val from hk0, toInt_small (by omega)]
  have hJlow : (n.val : Int) ≤ J.toInt := by
    rcases hJ with e | ⟨c, e⟩
    · rw [e, hb1]; omega
    · rw [e]
      split
      · next h => exact hIlow _ (h.trans hG0)
      · rw [hb2]; omega
  have hJup : J.toInt ≤ n.val := by
    refine (hJ' c0).trans ?_
    rw [hc0, if_pos (hM0.trans hG0.symm)]
    exact hI0
  exact ⟨n, BitVec.eq_of_toInt_eq ((le_antisymm hJup hJlow).trans (toInt_small (by omega)).symm), hn, fn⟩

/-- A fold of (value, position) pairs that keeps the greater value and, of equal values, the smaller position. -/
theorem pairs_isArg {N : Nat} (hN : 0 < N) (hN' : N < 2 ^ 31) (L : Fin N → EReal) (l : List (EReal × BitVec 32))
    (hl : ∀ p ∈ l, ∃ k : Fin N, p = (L k, BitVec.ofNat 32 k.val)) (hl' : ∀ k : Fin N, (L k, BitVec.ofNat 32 k.val) ∈ l)
    (op : EReal × BitVec 32 → EReal × BitVec 32 → EReal × BitVec 32)
    (hop : ∀ a b, op a b = if b.1 < a.1 ∨ (a.1 = b.1 ∧ a.2.toInt < b.2.toInt) then a else b) :
    IsArg L (l.foldl op (⊥, 0#32)).2 := by
  obtain ⟨n, hn, fn⟩ := exists_first hN L
  have nlt := n.isLt
  obtain ⟨h1, h2, h3⟩ := foldl_choice op (fun a b => b.1 ≤ a.1 ∧ (b.1 = a.1 → a.2.toInt ≤ b.2.toInt))
    (fun a => ⟨le_refl _, fun _ => le_refl _⟩)
    (fun a b c h h' => ⟨h'.1.trans h.1, fun e => by
      have e1 : b.1 = a.1 := le_antisymm h.1 (e ▸ h'.1)
      exact (h.2 e1).trans (h'.2 (e.trans e1.symm))⟩)
    (fun a b => by rw [hop]; split <;> simp)
    (fun a b => by
      rw [hop]; split
      · exact ⟨le_refl _, fun _ => le_refl _⟩
      · next h =>
        rw [not_or] at h
        refine ⟨not_lt.mp h.1, fun e => ?_⟩
        by_contra hlt
        exact h.2 ⟨e, by omega⟩)
    (fun a b => by
      rw [hop]; split
      · next h =>
        rcases h with h | h
        · exact ⟨h.le, fun e => absurd e h.ne⟩
        · exact ⟨h.1.ge, fun _ => h.2.le⟩
      · exact ⟨le_refl _, fun _ => le_refl _⟩) l (⊥, 0#32)
  generalize l.foldl op (⊥, 0#32) = v at h1 h2 h3 ⊢
  have hv := h3 _ (hl' n)
  have hvn : v.1 = L n := by
    refine le_antisymm ?_ hv.1
    rcases h1 with e | hm
    · rw [e]; exact bot_le
    · obtain ⟨k, e⟩ := hl v hm
      rw [e]; exact hn k
  have hup : v.2.toInt ≤ n.val := (hv.2 hvn.symm).trans (toInt_small (by omega)).le
  have hlow : (n.val : Int) ≤ v.2.toInt := by
    rcases h1 with e | hm
    · have hb : L n = ⊥ := by rw [← hvn, e]
      have := fn ⟨0, hN⟩ (le_antisymm (hn _) (hb ▸ bot_le))
      rw [e]
      show (n.val : Int) ≤ 0
      simp only at this
      omega
    · obtain ⟨k, e⟩ := hl v hm
      have hk : L k = L n := by rw [← hvn, e]
      have := fn k hk
      have := k.isLt
      rw [e]
      show (n.val : Int) ≤ (BitVec.ofNat 32 k.val).toInt
      rw [toInt_small (by omega)]
      omega
  exact ⟨n, BitVec.eq_of_toInt_eq ((le_antisymm hup hlow).trans (toInt_small (by omega)).symm), hn, fn⟩

end Cert.Value
-- ==== Proof.Value.Chunk.lean ====
/-
  What a block of the partial arg-max call computes over the extended reals: its lanes' logits, minus infinity past the
  last column, their maximum, and the first position of it.
-/
module

public import proofs.«01_k».proof.Proof.Value.Blocks
public import proofs.«01_k».proof.Proof.Value.Argmax
public import Idealize.ShloMosaic.Lib.Pointwise
public import Idealize.ShloMosaic.Lib.MatmulPlain

@[expose] public section

noncomputable section

namespace Cert.Value

open Idealize.ShloMosaic Idealize.ShloMosaic.TcCoe
open Cert.KernelIdeal Cert.KernelIdeal.Gen Cert.KernelIdeal.Hand

/-- A lane's position. -/
theorem pos_eq (t : Fin 13) (k : Fin 8192) :
    IntOp.addi (Scalar.muli (BitVec.ofNat 32 (grid1.coords t 0).val) 8192#32) (BitVec.ofNat 32 k.val) = BitVec.ofNat 32 (8192 * t.val + k.val) := by
  rw [coords_val]
  apply BitVec.eq_of_toNat_eq
  have := t.isLt
  have := k.isLt
  show ((BitVec.ofNat 32 t.val * 8192#32) + BitVec.ofNat 32 k.val).toNat = _
  simp only [BitVec.toNat_add, BitVec.toNat_mul, BitVec.toNat_ofNat]
  omega

/-- The test for a lane inside the row. -/
theorem inside {n : Nat} (h : n < 2 ^ 31) : (IntOp.cmpi .slt (BitVec.ofNat 32 n) 100000#32 = 1) ↔ n < 100000 := by
  show BitVec.ofBool ((BitVec.ofNat 32 n).slt 100000#32) = 1#1 ↔ _
  rw [show (BitVec.ofBool ((BitVec.ofNat 32 n).slt 100000#32) = 1#1) ↔ (BitVec.ofNat 32 n).slt 100000#32 = true from by
    cases (BitVec.ofNat 32 n).slt 100000#32 <;> decide, BitVec.slt_iff_toInt_lt, toInt_small h, show (100000#32).toInt = 100000 from rfl]
  omega

variable (t : Fin 13) (v0 : Vec Ideal S64x128 .f32) (v2 : Vec Ideal S128x8192 .f32) (v4 : Vec Ideal S1x8192 .f32) (r : Fin 64)

/-- A lane inside the row is its logit; -/
theorem lane_in (k : Fin 8192) (h : 8192 * t.val + k.val < 100000) :
    (k1_pay2 (F := Ideal) (grid1.coords t) v0 v2 v4 (ix2 r k) : EReal)
      = (∑ a : Fin 128, (v0 (ix2 r a) : EReal) * v2 (ix2 a k)) + v4 (ix2 (0 : Fin 1) k) := by
  pointwise [k1_pay2, k1_pay1]
  rw [pos_eq, Scalar.select, if_pos ((inside (by omega)).mpr h)]

/-- a lane outside is minus infinity. -/
theorem lane_out (k : Fin 8192) (h : ¬ 8192 * t.val + k.val < 100000) :
    (k1_pay2 (F := Ideal) (grid1.coords t) v0 v2 v4 (ix2 r k) : EReal) = ⊥ := by
  have := t.isLt
  have := k.isLt
  pointwise [k1_pay2, k1_pay1]
  rw [pos_eq, Scalar.select, if_neg (mt (inside (by omega)).mp h)]
  rfl

/-- The block's maximum along a row. -/
def top : EReal := multiReduction .maximumf [1] S64 (k1_pay2 (F := Ideal) (grid1.coords t) v0 v2 v4) 0xFF800000#32 reduces_S64x8192_S64 (.inl rfl) rfl (ix1 r)

theorem top_spec : (top t v0 v2 v4 r = ⊥ ∨ ∃ k, top t v0 v2 v4 r = k1_pay2 (F := Ideal) (grid1.coords t) v0 v2 v4 (ix2 r k))
    ∧ ∀ k, (k1_pay2 (F := Ideal) (grid1.coords t) v0 v2 v4 (ix2 r k) : EReal) ≤ top t v0 v2 v4 r :=
  max_row (n := 64) (k := 8192) reduces_S64x8192_S64 (.inl rfl) rfl _ r

/-- The block stores its maximum in every lane of its part of the table, -/
theorem pay4_at (l : Fin 128) : (k1_pay4 (F := Ideal) (grid1.coords t) v0 v2 v4 (ix2 r l) : EReal) = top t v0 v2 v4 r := by
  unfold k1_pay4 k1_pay3 top
  generalize multiReduction .maximumf [1] S64 (k1_pay2 (F := Ideal) (grid1.coords t) v0 v2 v4) 0xFF800000#32 reduces_S64x8192_S64 (.inl rfl) rfl = m
  pointwise

/-- and the first position where it is attained. -/
theorem pay5_spec (l : Fin 128) :
    (k1_pay5 (F := Ideal) (grid1.coords t) v0 v2 v4 (ix2 r l) = 2147483647#32
      ∨ ∃ k, k1_pay5 (F := Ideal) (grid1.coords t) v0 v2 v4 (ix2 r l)
        = if (k1_pay2 (F := Ideal) (grid1.coords t) v0 v2 v4 (ix2 r k) : EReal) = top t v0 v2 v4 r then BitVec.ofNat 32 (8192 * t.val + k.val) else 100000#32)
    ∧ ∀ k, (k1_pay5 (F := Ideal) (grid1.coords t) v0 v2 v4 (ix2 r l)).toInt
        ≤ (if (k1_pay2 (F := Ideal) (grid1.coords t) v0 v2 v4 (ix2 r k) : EReal) = top t v0 v2 v4 r then BitVec.ofNat 32 (8192 * t.val + k.val) else 100000#32).toInt := by
  have hs : ∀ k : Fin 8192, (select (cmpf .oeq (k1_pay2 (F := Ideal) (grid1.coords t) v0 v2 v4) (broadcastTo S64x8192 (k1_pay3 (F := Ideal) (grid1.coords t) v0 v2 v4) broadcasts_S64x1_S64x8192))
      (broadcastTo S64x8192 (shapeCast S1x8192 (k1_pay1 (grid1.coords t)) shapeCasts_S1x8192_S1x8192) broadcasts_S1x8192_S64x8192) (broadcast S64x8192 100000#32) (ix2 r k) : BitVec 32)
      = if (k1_pay2 (F := Ideal) (grid1.coords t) v0 v2 v4 (ix2 r k) : EReal) = top t v0 v2 v4 r then BitVec.ofNat 32 (8192 * t.val + k.val) else 100000#32 := fun k => by
    unfold k1_pay3 top
    generalize multiReduction .maximumf [1] S64 (k1_pay2 (F := Ideal) (grid1.coords t) v0 v2 v4) 0xFF800000#32 reduces_S64x8192_S64 (.inl rfl) rfl = m
    pointwise [k1_pay1]
    rw [pos_eq]
  have hp : k1_pay5 (F := Ideal) (grid1.coords t) v0 v2 v4 (ix2 r l)
      = multiReductionI .minsi [1] S64 (select (cmpf .oeq (k1_pay2 (F := Ideal) (grid1.coords t) v0 v2 v4) (broadcastTo S64x8192 (k1_pay3 (F := Ideal) (grid1.coords t) v0 v2 v4) broadcasts_S64x1_S64x8192))
      (broadcastTo S64x8192 (shapeCast S1x8192 (k1_pay1 (grid1.coords t)) shapeCasts_S1x8192_S1x8192) broadcasts_S1x8192_S64x8192) (broadcast S64x8192 100000#32)) 2147483647#32 reduces_S64x8192_S64 rfl (ix1 r) := by
    unfold k1_pay5
    generalize multiReductionI .minsi [1] S64 (select (cmpf .oeq (k1_pay2 (F := Ideal) (grid1.coords t) v0 v2 v4) (broadcastTo S64x8192 (k1_pay3 (F := Ideal) (grid1.coords t) v0 v2 v4) broadcasts_S64x1_S64x8192))
      (broadcastTo S64x8192 (shapeCast S1x8192 (k1_pay1 (grid1.coords t)) shapeCasts_S1x8192_S1x8192) broadcasts_S1x8192_S64x8192) (broadcast S64x8192 100000#32)) 2147483647#32 reduces_S64x8192_S64 rfl = m
    pointwise
  obtain ⟨h1, h2⟩ := min_row (n := 64) (k := 8192) reduces_S64x8192_S64 rfl (select (cmpf .oeq (k1_pay2 (F := Ideal) (grid1.coords t) v0 v2 v4) (broadcastTo S64x8192 (k1_pay3 (F := Ideal) (grid1.coords t) v0 v2 v4) broadcasts_S64x1_S64x8192))
      (broadcastTo S64x8192 (shapeCast S1x8192 (k1_pay1 (grid1.coords t)) shapeCasts_S1x8192_S1x8192) broadcasts_S1x8192_S64x8192) (broadcast S64x8192 100000#32)) r
  rw [hp]
  exact ⟨h1.imp_right fun ⟨k, e⟩ => ⟨k, e.trans (hs k)⟩, fun k => hs k ▸ h2 k⟩

end Cert.Value

end
-- ==== Proof.Value.Merge.lean ====
/-
  The merge of the blocks' maxima and positions is the first position of the greatest logit of the whole row.
-/
module

public import proofs.«01_k».proof.Proof.Value.Chunk
public import proofs.«01_k».proof.Proof.KI.Region2

@[expose] public section

noncomputable section

namespace Cert.Value

open Idealize.ShloMosaic Idealize.ShloMosaic.TcCoe
open Cert.KernelIdeal Cert.KernelIdeal.Gen Cert.KernelIdeal.Hand

section Lanes

variable (t : Fin 13) (v0 : Vec Ideal S64x128 .f32) (v2 : Vec Ideal S128x8192 .f32) (v4 : Vec Ideal S1x8192 .f32) (r : Fin 64)

/-- Every lane of a block's part of the table of positions holds one word. -/
theorem pay5_lane (l : Fin 128) : k1_pay5 (F := Ideal) (grid1.coords t) v0 v2 v4 (ix2 r l) = k1_pay5 (F := Ideal) (grid1.coords t) v0 v2 v4 (ix2 r 0) := by
  unfold k1_pay5
  generalize multiReductionI .minsi [1] S64 (select (cmpf .oeq (k1_pay2 (F := Ideal) (grid1.coords t) v0 v2 v4) (broadcastTo S64x8192 (k1_pay3 (F := Ideal) (grid1.coords t) v0 v2 v4) broadcasts_S64x1_S64x8192))
    (broadcastTo S64x8192 (shapeCast S1x8192 (k1_pay1 (grid1.coords t)) shapeCasts_S1x8192_S1x8192) broadcasts_S1x8192_S64x8192) (broadcast S64x8192 100000#32)) 2147483647#32 reduces_S64x8192_S64 rfl = m
  pointwise

end Lanes

section Word

variable (pv : FVec Ideal S64x1664 .f32) (pi : IVec S64x1664 32) (cur : IVec S64x1 32) (r : Fin 64)

/-- The greatest of a row's maxima, -/
def best : EReal := multiReduction (F := Ideal) .maximumf [1] S64 pv 0xFF800000#32 reduces_S64x1664_S64 (.inl rfl) rfl (ix1 r)

/-- and the least position where it is attained. -/
def word : BitVec 32 := multiReductionI .minsi [1] S64
  (select (cmpf (F := Ideal) .oeq pv (broadcastTo S64x1664 (shapeCast S64x1 (multiReduction (F := Ideal) .maximumf [1] S64 pv 0xFF800000#32 reduces_S64x1664_S64 (.inl rfl) rfl) shapeCasts_S64_S64x1) broadcasts_S64x1_S64x1664)) pi (broadcast S64x1664 100000#32))
  2147483647#32 reduces_S64x1664_S64 rfl (ix1 r)

theorem best_spec : (best pv r = ⊥ ∨ ∃ c, best pv r = pv (ix2 r c)) ∧ ∀ c, (pv (ix2 r c) : EReal) ≤ best pv r :=
  max_row (n := 64) (k := 1664) reduces_S64x1664_S64 (.inl rfl) rfl _ r

theorem word_spec : (word pv pi r = 2147483647#32 ∨ ∃ c, word pv pi r = if (pv (ix2 r c) : EReal) = best pv r then pi (ix2 r c) else 100000#32)
    ∧ ∀ c, (word pv pi r).toInt ≤ (if (pv (ix2 r c) : EReal) = best pv r then pi (ix2 r c) else 100000#32).toInt := by
  have hs : ∀ c : Fin 1664, (select (cmpf (F := Ideal) .oeq pv (broadcastTo S64x1664 (shapeCast S64x1 (multiReduction (F := Ideal) .maximumf [1] S64 pv 0xFF800000#32 reduces_S64x1664_S64 (.inl rfl) rfl) shapeCasts_S64_S64x1) broadcasts_S64x1_S64x1664)) pi (broadcast S64x1664 100000#32)) (ix2 r c)
      = if (pv (ix2 r c) : EReal) = best pv r then pi (ix2 r c) else 100000#32 := fun c => by
    unfold best
    generalize multiReduction (F := Ideal) .maximumf [1] S64 pv 0xFF800000#32 reduces_S64x1664_S64 (.inl rfl) rfl = m
    pointwise
  obtain ⟨h1, h2⟩ := min_row (n := 64) (k := 1664) reduces_S64x1664_S64 rfl (select (cmpf (F := Ideal) .oeq pv (broadcastTo S64x1664 (shapeCast S64x1 (multiReduction (F := Ideal) .maximumf [1] S64 pv 0xFF800000#32 reduces_S64x1664_S64 (.inl rfl) rfl) shapeCasts_S64_S64x1) broadcasts_S64x1_S64x1664)) pi (broadcast S64x1664 100000#32)) r
  exact ⟨h1.imp_right fun ⟨c, e⟩ => ⟨c, e.trans (hs c)⟩, fun c => hs c ▸ h2 c⟩

/-- A select on an equality of words is a case distinction. -/
theorem select_eq {α : Type} (a b : BitVec 32) (x y : α) : Scalar.select (IntOp.cmpi .eq a b) x y = if a = b then x else y := by
  unfold Scalar.select IntOp.cmpi
  by_cases h : a = b
  · simp [h]
  · have e : (a == b) = false := beq_eq_false_iff_ne.mpr h
    simp [h, e]

/-- The token a row is given: the end token after an end token, else the merged position. -/
theorem tok_at (k : Fin 1) : mergeTok (F := Ideal) cur pv pi (ix2 r k) = if cur (ix2 r k) = 2#32 then 2#32 else word pv pi r := by
  unfold mergeTok k2_pay3 word
  simp only [shapeCast_self]
  generalize multiReductionI .minsi [1] S64
    (select (cmpf (F := Ideal) .oeq pv (broadcastTo S64x1664 (shapeCast S64x1 (multiReduction (F := Ideal) .maximumf [1] S64 pv 0xFF800000#32 reduces_S64x1664_S64 (.inl rfl) rfl) shapeCasts_S64_S64x1) broadcasts_S64x1_S64x1664)) pi (broadcast S64x1664 100000#32))
    2147483647#32 reduces_S64x1664_S64 rfl = m
  pointwise
  exact select_eq _ _ _ _

end Word

variable (V : Valuation τ sig (Elt Ideal)) (r : Fin 64)

/-- A row's logits, as the windowed arrays give them. -/
def logit (k : Fin 100000) : EReal :=
  (∑ a : Fin 128, (show EReal from V main_v20 (ix2 r a)) * (show EReal from V main_arg2 (ix2 a k)))
    + (show EReal from V main_v19 (ix2 (0 : Fin 1) ⟨k.val, by omega⟩))

/-- A block's lanes are logits, whatever lies past the weights' last column. -/
theorem lane_logit (t : Fin 13) (d) (k : Fin 8192) (h : 8192 * t.val + k.val < 100000) :
    (k1_pay2 (F := Ideal) (grid1.coords t) (bk0 V t) (bk1 V t d) (bk2 V t) (ix2 r k) : EReal) = logit V r ⟨8192 * t.val + k.val, h⟩ := by
  rw [lane_in _ _ _ _ _ _ h, bk2_at]
  unfold logit
  simp only [bk0_at, bk1_at V t d _ k h]

theorem lanes_indep (t : Fin 13) (d d') :
    k1_pay2 (F := Ideal) (grid1.coords t) (bk0 V t) (bk1 V t d) (bk2 V t) = k1_pay2 (F := Ideal) (grid1.coords t) (bk0 V t) (bk1 V t d') (bk2 V t) := by
  funext j
  rw [eq_ix2 j]
  by_cases h : 8192 * t.val + (j 1).val < 100000
  · exact (lane_logit V (j 0) t d (j 1) h).trans (lane_logit V (j 0) t d' (j 1) h).symm
  · exact (lane_out t _ _ _ (j 0) (j 1) h).trans (lane_out t _ _ _ (j 0) (j 1) h).symm

/-- The merged position is the first of the row's greatest logit. -/
theorem word_isArg (pv : FVec Ideal S64x1664 .f32) (pi : IVec S64x1664 32) (h : Rel1 V pv pi) : IsArg (logit V r) (word pv pi r) := by
  have d0 : Vec Ideal S128x8192 .f32 := fun _ => (0 : EReal)
  let q : Fin 1664 → Fin 13 := fun c => ⟨c.val / 128, by omega⟩
  let M : Fin 13 → EReal := fun t => top t (bk0 V t) (bk1 V t d0) (bk2 V t) r
  let I : Fin 13 → BitVec 32 := fun t => k1_pay5 (F := Ideal) (grid1.coords t) (bk0 V t) (bk1 V t d0) (bk2 V t) (ix2 r 0)
  have hc : ∀ c : Fin 1664, (⟨128 * (q c).val + c.val % 128, lane_lt (q c) ⟨c.val % 128, Nat.mod_lt _ (by decide)⟩⟩ : Fin 1664) = c := fun c =>
    Fin.ext (Nat.div_add_mod _ _)
  have hpv : ∀ c, (pv (ix2 r c) : EReal) = M (q c) := fun c => by
    obtain ⟨d, hd⟩ := h.1 (q c)
    have e := hd (ix2 r ⟨c.val % 128, Nat.mod_lt _ (by decide)⟩)
    rw [emb3, hc c] at e
    refine e.trans ((pay4_at _ _ _ _ _ _).trans ?_)
    show top _ _ _ _ _ = top _ _ _ _ _
    unfold top
    rw [lanes_indep V (q c) d d0]
  have hpi : ∀ c, pi (ix2 r c) = I (q c) := fun c => by
    obtain ⟨d, hd⟩ := h.2 (q c)
    have e := hd (ix2 r ⟨c.val % 128, Nat.mod_lt _ (by decide)⟩)
    rw [emb4, hc c] at e
    refine e.trans ((pay5_lane _ _ _ _ _ _).trans ?_)
    show k1_pay5 _ _ _ _ _ = k1_pay5 _ _ _ _ _
    unfold k1_pay5 k1_pay3
    rw [lanes_indep V (q c) d d0]
  obtain ⟨g1, g2⟩ := best_spec pv r
  obtain ⟨w1, w2⟩ := word_spec pv pi r
  simp only [hpv, hpi] at g1 g2 w1 w2
  exact merge_isArg q (fun t => ⟨⟨128 * t.val, by omega⟩, Fin.ext (by show 128 * t.val / 128 = t.val; omega)⟩) (logit V r)
    (fun t k => k1_pay2 (F := Ideal) (grid1.coords t) (bk0 V t) (bk1 V t d0) (bk2 V t) (ix2 r k))
    (fun t k hk => lane_logit V r t d0 k hk) (fun t k hk => lane_out t _ _ _ r k hk) M (fun t => (top_spec t _ _ _ r).1) (fun t k => (top_spec t _ _ _ r).2 k)
    I (fun t => (pay5_spec t _ _ _ r 0).1) (fun t k => (pay5_spec t _ _ _ r 0).2 k) (best pv r) g1 g2 (word pv pi r) w1 w2

end Cert.Value

end
-- ==== Proof.RI.Read.lean ====
/-
  What the reference's pieces compute, as functions of the arguments.
-/
module

public import proofs.«01_k».proof.Proof.RI.Run
public import Idealize.ShloMosaic.Lib.StableHlo.RunClose

@[expose] public section

noncomputable section

namespace Cert.ReferenceIdeal.Hand

open Cert.ReferenceIdeal Cert.ReferenceIdeal.Gen
open Idealize.ShloMosaic Idealize.ShloMosaic.TcCoe Idealize.ShloMosaic.Tactic

variable {F : FTy → Type} [FloatOps F]

/-- The effective step; -/
def rstep (s : FVec F S1 .f32) : FVec F S1 .f32 :=
  mulf (uitofp .f32 (cmpf .olt s (broadcastInDim S1 ![] bcast_S_S1 (constant S_ .f32 0x44FFE000#32)))) s
/-- one where the decoding begins, else zero; -/
def rbeg (s : FVec F S1 .f32) : FVec F S1 .f32 :=
  uitofp .f32 (cmpf .oeq (rstep s) (broadcastInDim S1 ![] bcast_S_S1 (constant S_ .f32 0x00000000#32)))
/-- the step written at; -/
def rpos (s : FVec F S1 .f32) : FVec F S1 .f32 :=
  mulf (subf (broadcastInDim S1 ![] bcast_S_S1 (constant S_ .f32 0x3F800000#32)) (rbeg s)) (rstep s)
/-- the buffer, cleared where the decoding begins; -/
def rgen (gen : FVec F S64x2047 .f32) (s : FVec F S1 .f32) : FVec F S64x2047 .f32 :=
  addf (mulf (broadcastInDim S64x2047 ![0, 1] bcast_S1x1_S64x2047_0_1 (broadcastInDim S1x1 ![1] bcast_S1_S1x1_1
      (subf (broadcastInDim S1 ![] bcast_S_S1 (constant S_ .f32 0x3F800000#32)) (rbeg s)))) gen)
    (mulf (mulf (broadcastInDim S64x2047 ![0, 1] bcast_S1x1_S64x2047_0_1 (broadcastInDim S1x1 ![1] bcast_S1_S1x1_1 (rbeg s)))
      (broadcastInDim S64x2047 ![] bcast_S_S64x2047 (constant S_ .f32 0x3F800000#32))) (broadcastInDim S64x2047 ![] bcast_S_S64x2047 (constant S_ .f32 0x00000000#32)))
/-- the token columns, the first given and the others generated; -/
def rcols (ids : IVec S64x1 32) (gen : FVec F S64x2047 .f32) (s : FVec F S1 .f32) : IVec S64x2048 32 :=
  concatenate S64x2048 1 [⟨S64x1, ids⟩, ⟨S64x2047, fptosi 32 (rgen gen s)⟩] concatenates_S64x1_S64x2047_S64x2048_d1
/-- and the column read. -/
def ridx (s : FVec F S1 .f32) : IVec S1 32 :=
  subi (addi (broadcastInDim S1 ![] bcast_S_S1 (constantI S_ 32 1#32)) (fptosi 32 (rpos s))) (broadcastInDim S1 ![] bcast_S_S1 (constantI S_ 32 1#32))

/-- An index of a column, wrapped where negative; -/
def tidx (i : IVec S1 32) : IVec S1x1 32 :=
  broadcastInDim S1x1 ![0] bcast_S1_S1x1_0 (select (cmpi .slt i (broadcastInDim S1 ![] bcast_S_S1 (constantI S_ 32 0#32)))
    (addi i (broadcastInDim S1 ![] bcast_S_S1 (constantI S_ 32 2048#32))) i)
/-- whether it is in range; -/
def tok (i : IVec S1 32) : IVec S1 1 :=
  Host.reduce IntOp.andi (andi (cmpi .sge (tidx i) (broadcastInDim S1x1 ![] bcast_S_S1x1 (constantI S_ 32 0#32)))
    (cmpi .sle (tidx i) (broadcastInDim S1x1 ![1] bcast_S1_S1x1_1 (constantI S1 32 2047#32)))) (constantI S_ 1 1#1) reducesTo_S1x1_S1_d1 h_S_
/-- the column taken. -/
def takeV (x : IVec S64x2048 32) (i : IVec S1 32) : IVec S64x1 32 :=
  select (broadcastInDim S64x1 ![1] bcast_S1_S64x1_1 (tok i)) (Host.gather gather_S64x2048_S1x1_S64x1_0_1_n_n_1_1_641 x (tidx i))
    (broadcastInDim S64x1 ![] bcast_S_S64x1 (constantI S_ 32 2147483648#32))

/-- The indices of rows, wrapped where negative; -/
def eidx (i : IVec S64x1 32) : IVec S64x1x1 32 :=
  broadcastInDim S64x1x1 ![0, 1] bcast_S64x1_S64x1x1_0_1 (select (cmpi .slt i (broadcastInDim S64x1 ![] bcast_S_S64x1 (constantI S_ 32 0#32)))
    (addi i (broadcastInDim S64x1 ![] bcast_S_S64x1 (constantI S_ 32 100000#32))) i)
/-- whether each is in range; -/
def eok (i : IVec S64x1 32) : IVec S64x1 1 :=
  Host.reduce IntOp.andi (andi (cmpi .sge (eidx i) (broadcastInDim S64x1x1 ![] bcast_S_S64x1x1 (constantI S_ 32 0#32)))
    (cmpi .sle (eidx i) (broadcastInDim S64x1x1 ![0, 1, 2] bcast_S1x1x1_S64x1x1_0_1_2 (broadcastInDim S1x1x1 ![2] bcast_S1_S1x1x1_2 (constantI S1 32 99999#32)))))
    (constantI S_ 1 1#1) reducesTo_S64x1x1_S64x1_d2 h_S_
/-- the rows taken. -/
def rowsV (e : FVec F S100000x128 .f32) (i : IVec S64x1 32) : FVec F S64x1x128 .f32 :=
  select (broadcastInDim S64x1x128 ![0, 1] bcast_S64x1_S64x1x128_0_1 (eok i)) (Host.gather gather_S100000x128_S64x1x1_S64x1x128_2_0_n_n_0_2_1128 e (eidx i))
    (broadcastInDim S64x1x128 ![] bcast_S_S64x1x128 (constant S_ .f32 0x7FC00000#32))

/-- The logits. -/
def logitsV (x : FVec F S64x1x128 .f32) (w : FVec F S128x100000 .f32) (b : FVec F S100000 .f32) : FVec F S64x100000 .f32 :=
  shapeCast S64x100000 (addf (Host.dotGeneral dot_S64x1x128_S128x100000_S64x1x100000_2_0_01_1_n_n none x w)
    (broadcastInDim S64x1x100000 ![0, 1, 2] bcast_S1x1x100000_S64x1x100000_0_1_2 (broadcastInDim S1x1x100000 ![2] bcast_S100000_S1x1x100000_2 b))) shapeCasts_S64x1x100000_S64x100000
/-- The tokens chosen. -/
def argV (x : FVec F S64x100000 .f32) : IVec S64 32 := fun j =>
  (Host.argReduce (F := F) reducer_argmax_f32_i32 x (iotaInDim S64x100000 32 1) (constant S_ .f32 0xFF800000#32) (constantI S_ 32 0#32) reducesTo_S64x100000_S64_d1 h_S_ j).2
/-- The tokens put out: the end token after an end token. -/
def outV (prev next : IVec S64x1 32) : IVec S64x1 32 :=
  addi (muli (extui 32 (cmpi .eq prev (broadcastInDim S64x1 ![] bcast_S_S64x1 (constantI S_ 32 2#32))) natLt_1_32) (broadcastInDim S64x1 ![] bcast_S_S64x1 (constantI S_ 32 2#32)))
    (muli (subi (broadcastInDim S64x1 ![] bcast_S_S64x1 (constantI S_ 32 1#32)) (extui 32 (cmpi .eq prev (broadcastInDim S64x1 ![] bcast_S_S64x1 (constantI S_ 32 2#32))) natLt_1_32)) next)
/-- The column written at, wrapped where negative. -/
def widx (p : IVec S1 32) : IVec S1 32 :=
  broadcastInDim S1 ![] bcast_S_S1 (select (cmpi .slt (shapeCast S_ p shapeCasts_S1_S_) (constantI S_ 32 0#32)) (addi (shapeCast S_ p shapeCasts_S1_S_) (constantI S_ 32 2047#32)) (shapeCast S_ p shapeCasts_S1_S_))
/-- The buffer with the tokens added in. -/
def bufV (g : FVec F S64x2047 .f32) (p : IVec S1 32) (o : IVec S64x1 32) : FVec F S64x2047 .f32 :=
  Host.scatter scatter_S64x2047_S1_S64_0_1_1_0 FloatOps.addf g (widx p)
    (sitofp .f32 (subi (shapeCast S64 o shapeCasts_S64x1_S64) (broadcastInDim S64 ![] bcast_S_S64 (constantI S_ 32 0#32))))

section Pieces

variable (V : Valuation τ sig (Elt F))

theorem p0_v18 : StableHlo.after ops0 V (Proc.devRef .tc main_v18) = rgen (V main_arg4) (V main_arg5) := by
  unfold ops0
  after_results_entrywise []
theorem p0_v21 : StableHlo.after ops0 V (Proc.devRef .tc main_v21) = rpos (V main_arg5) := by
  unfold ops0
  after_results_entrywise []
theorem p0_v23 : StableHlo.after ops0 V (Proc.devRef .tc main_v23) = rcols (V main_arg0) (V main_arg4) (V main_arg5) := by
  unfold ops0
  after_results_entrywise []
theorem p0_v28 : StableHlo.after ops0 V (Proc.devRef .tc main_v28) = ridx (V main_arg5) := by
  unfold ops0
  after_results_entrywise []
theorem p1_v29 : StableHlo.after (take (.of main_v23) (.of main_v28) main_call0) V (Proc.devRef .tc main_v29) = takeV (V main_v23) (V main_v28) := by
  unfold take
  after_results_entrywise []
theorem p2_v30 : StableHlo.after (rows (.of main_arg1) (.of main_v29) main_call1) V (Proc.devRef .tc main_v30) = rowsV (F := F) (V main_arg1) (V main_v29) := by
  unfold rows
  after_results_entrywise []
theorem p3_v35 : StableHlo.after ops1 V (Proc.devRef .tc main_v35) = logitsV (F := F) (V main_v30) (V main_arg2) (V main_arg3) := by
  unfold ops1
  after_results_entrywise []
theorem p4_v36 : StableHlo.after (argmax (.of main_v35) main_call2) V (Proc.devRef .tc main_v36) = argV (F := F) (V main_v35) := by
  unfold argmax
  after_results_entrywise []
theorem p5_v37 : StableHlo.after ops2 V (Proc.devRef .tc main_v37) = broadcastInDim S64x1 ![0] bcast_S64_S64x1_0 (V main_v36 : IVec S64 32) := by
  unfold ops2
  after_results_entrywise []
theorem p6_v38 : StableHlo.after (take (.of main_v23) (.of main_v28) main_call3) V (Proc.devRef .tc main_v38) = takeV (V main_v23) (V main_v28) := by
  unfold take
  after_results_entrywise []
theorem p7_v47 : StableHlo.after ops3 V (Proc.devRef .tc main_v47) = outV (V main_v38) (V main_v37) := by
  unfold ops3
  after_results_entrywise []
theorem p7_v48 : StableHlo.after ops3 V (Proc.devRef .tc main_v48) = (fptosi 32 (V main_v21 : FVec F S1 .f32) : IVec S1 32) := by
  unfold ops3
  after_results_entrywise []
theorem p8_v58 : StableHlo.after ops4 V (Proc.devRef .tc main_v58) = bufV (F := F) (V main_v18) (V main_v48) (V main_v47) := by
  unfold ops4
  after_results_entrywise []
theorem p8_v60 : StableHlo.after ops4 V (Proc.devRef .tc main_v60) = addf (V main_v21 : FVec F S1 .f32) (broadcastInDim S1 ![] bcast_S_S1 (constant S_ .f32 0x3F800000#32)) := by
  unfold ops4
  after_results_entrywise []

end Pieces

/-! The results, as functions of the arguments. -/

/-- The tokens read: -/
def prevR (ids : IVec S64x1 32) (gen : FVec F S64x2047 .f32) (s : FVec F S1 .f32) : IVec S64x1 32 := takeV (rcols ids gen s) (ridx s)
/-- the tokens put out. -/
def tokR (ids : IVec S64x1 32) (e : FVec F S100000x128 .f32) (w : FVec F S128x100000 .f32) (b : FVec F S100000 .f32) (gen : FVec F S64x2047 .f32)
    (s : FVec F S1 .f32) : IVec S64x1 32 :=
  outV (prevR ids gen s) (broadcastInDim S64x1 ![0] bcast_S64_S64x1_0 (argV (logitsV (rowsV e (prevR ids gen s)) w b)))

variable (V : Valuation τ sig (Elt F))

theorem r_v18 : at1 V main_v18 = rgen (V main_arg4) (V main_arg5) := p0_v18 V
theorem r_v21 : at1 V main_v21 = rpos (V main_arg5) := p0_v21 V
theorem r_v23 : at1 V main_v23 = rcols (V main_arg0) (V main_arg4) (V main_arg5) := p0_v23 V
theorem r_v28 : at1 V main_v28 = ridx (V main_arg5) := p0_v28 V
theorem r_v29 : at2 V main_v29 = prevR (V main_arg0) (V main_arg4) (V main_arg5) := by
  rw [show at2 V main_v29 = _ from p1_v29 _, r_v23, r_v28]; rfl
theorem r_v30 : at3 V main_v30 = rowsV (F := F) (V main_arg1) (prevR (V main_arg0) (V main_arg4) (V main_arg5)) := by
  rw [show at3 V main_v30 = _ from p2_v30 _, r_v29, at2_of V main_arg1 (by decide), at1_of V main_arg1 (by decide)]
theorem r_v35 : at4 V main_v35 = logitsV (F := F) (rowsV (V main_arg1) (prevR (V main_arg0) (V main_arg4) (V main_arg5))) (V main_arg2) (V main_arg3) := by
  rw [show at4 V main_v35 = _ from p3_v35 _, r_v30, at3_of V main_arg2 (by decide), at2_of V main_arg2 (by decide), at1_of V main_arg2 (by decide),
    at3_of V main_arg3 (by decide), at2_of V main_arg3 (by decide), at1_of V main_arg3 (by decide)]
theorem r_v37 : at6 V main_v37 = broadcastInDim S64x1 ![0] bcast_S64_S64x1_0
    (argV (logitsV (F := F) (rowsV (V main_arg1) (prevR (V main_arg0) (V main_arg4) (V main_arg5))) (V main_arg2) (V main_arg3))) := by
  rw [show at6 V main_v37 = _ from p5_v37 _, show at5 V main_v36 = _ from p4_v36 _, r_v35]
theorem r_v38 : at7 V main_v38 = prevR (V main_arg0) (V main_arg4) (V main_arg5) := by
  rw [show at7 V main_v38 = _ from p6_v38 _, at6_of V main_v23 (by decide), at5_of V main_v23 (by decide), at4_of V main_v23 (by decide),
    at3_of V main_v23 (by decide), at2_of V main_v23 (by decide), r_v23, at6_of V main_v28 (by decide), at5_of V main_v28 (by decide),
    at4_of V main_v28 (by decide), at3_of V main_v28 (by decide), at2_of V main_v28 (by decide), r_v28]
  rfl
theorem r_v47 : at8 V main_v47 = tokR (F := F) (V main_arg0) (V main_arg1) (V main_arg2) (V main_arg3) (V main_arg4) (V main_arg5) := by
  rw [show at8 V main_v47 = _ from p7_v47 _, r_v38, at7_of V main_v37 (by decide), r_v37]
  rfl
theorem r7_v21 : at7 V main_v21 = rpos (V main_arg5) := by
  rw [at7_of V main_v21 (by decide), at6_of V main_v21 (by decide), at5_of V main_v21 (by decide), at4_of V main_v21 (by decide),
    at3_of V main_v21 (by decide), at2_of V main_v21 (by decide), r_v21]
theorem r8_v18 : at8 V main_v18 = rgen (V main_arg4) (V main_arg5) := by
  rw [at8_of V main_v18 (by decide), at7_of V main_v18 (by decide), at6_of V main_v18 (by decide), at5_of V main_v18 (by decide), at4_of V main_v18 (by decide),
    at3_of V main_v18 (by decide), at2_of V main_v18 (by decide), r_v18]

/-- The three results. -/
theorem result0 : at9 V main_v47 = tokR (F := F) (V main_arg0) (V main_arg1) (V main_arg2) (V main_arg3) (V main_arg4) (V main_arg5) := by
  rw [at9_of V main_v47 (by decide), r_v47]
theorem result1 : at9 V main_v58 = bufV (F := F) (rgen (V main_arg4) (V main_arg5)) (fptosi 32 (rpos (F := F) (V main_arg5)))
    (tokR (F := F) (V main_arg0) (V main_arg1) (V main_arg2) (V main_arg3) (V main_arg4) (V main_arg5)) := by
  rw [show at9 V main_v58 = _ from p8_v58 _, r8_v18, show at8 V main_v48 = _ from p7_v48 _, r7_v21, r_v47]
theorem result2 : at9 V main_v60 = addf (rpos (F := F) (V main_arg5)) (broadcastInDim S1 ![] bcast_S_S1 (constant S_ .f32 0x3F800000#32)) := by
  rw [show at9 V main_v60 = _ from p8_v60 _, at8_of V main_v21 (by decide), r7_v21]

end Cert.ReferenceIdeal.Hand

end
-- ==== Proof.Value.Step.lean ====
/-
  The effective step is a whole number below the buffer's width, on both sides.
-/
module

public import proofs.«01_k».proof.Proof.KI.Host
public import proofs.«01_k».proof.Proof.RI.Read
public import Idealize.ShloMosaic.Lib.Pointwise
public import Idealize.ShloMosaic.Lib.IdealHost

@[expose] public section

noncomputable section

namespace Cert.Value

open Idealize.ShloMosaic
open Cert.KernelIdeal Cert.KernelIdeal.Gen Cert.KernelIdeal.Hand

theorem ofBits_width : Ideal.ofBits .f32 0x44FFE000#32 = ((2047 : ℝ) : EReal) := by
  simp [Ideal.ofBits, Ideal.ieee, -EReal.coe_mul]; norm_num

/-- The step used: the counter while it is below the width, else zero. -/
def eff (x : EReal) : EReal := if x < ((2047 : ℝ) : EReal) then x else 0

theorem ofBool_decide {p : Prop} [Decidable p] : BitVec.ofBool (decide p) = 1#1 ↔ p := by
  by_cases h : p <;> simp [h]

theorem or_one {a b : BitVec 1} (h : a ||| b = 1#1) : a = 1#1 ∨ b = 1#1 := by
  revert a b; decide
theorem and_one {a b : BitVec 1} (h : a &&& b = 1#1) : a = 1#1 ∧ b = 1#1 := by
  revert a b; decide

/-- A counter that passes the test is used as a whole number below the width. -/
theorem eff_nat (x : EReal) (h : Ideal.cmp .oge x (Ideal.ofBits .f32 0x44FFE000#32) ||| (Ideal.cmp .oge x (Ideal.ofBits .f32 0x00000000#32) &&& Ideal.cmp .oeq (Ideal.liftRound Int.floor x) x) = 1#1) :
    ∃ n : ℕ, n < 2047 ∧ eff x = ((n : ℝ) : EReal) := by
  rw [ofBits_width, Ideal.ofBits_zero_f32] at h
  unfold eff
  by_cases hx : x < ((2047 : ℝ) : EReal)
  · rw [if_pos hx]
    rcases or_one h with h | h
    · exact absurd hx (not_lt.mpr (ofBool_decide.mp h))
    · obtain ⟨h0, h1⟩ := and_one h
      have h0 : (0 : EReal) ≤ x := ofBool_decide.mp h0
      have h1 : Ideal.liftRound Int.floor x = x := ofBool_decide.mp h1
      induction x with
      | bot => exact absurd h0 (by simp)
      | top => exact absurd hx (by simp)
      | coe r =>
        have h0 : 0 ≤ r := by exact_mod_cast h0
        have hx : r < 2047 := by exact_mod_cast hx
        have h1 : ((⌊r⌋ : ℝ) : EReal) = (r : EReal) := h1
        have h1 : (⌊r⌋ : ℝ) = r := by exact_mod_cast h1
        have hf : 0 ≤ ⌊r⌋ := Int.floor_nonneg.mpr h0
        have hn : ((⌊r⌋.toNat : ℕ) : ℝ) = r := by
          have e : ((⌊r⌋.toNat : ℤ) : ℝ) = (⌊r⌋ : ℝ) := by rw [Int.toNat_of_nonneg hf]
          exact (by exact_mod_cast e : ((⌊r⌋.toNat : ℕ) : ℝ) = (⌊r⌋ : ℝ)).trans h1
        refine ⟨⌊r⌋.toNat, ?_, by rw [hn]⟩
        have : ((⌊r⌋.toNat : ℕ) : ℝ) < 2047 := lt_of_eq_of_lt hn hx
        exact_mod_cast this
  · rw [if_neg hx]
    exact ⟨0, by omega, by simp⟩

/-- A small whole number converts to its word; -/
theorem fptosi_nat (n : ℕ) (h : n < 2 ^ 31) : Ideal.fptosi 32 ((n : ℝ) : EReal) = BitVec.ofNat 32 n := by
  rw [Ideal.fptosi, Ideal.toIntClamped_coe, if_pos (by positivity), Int.floor_natCast]
  rw [show max (-((2 ^ (32 - 1) : ℕ) : ℤ)) (min (((2 ^ (32 - 1) : ℕ) : ℤ) - 1) (n : ℤ)) = (n : ℤ) from by
    rw [min_eq_right (by push_cast; omega), max_eq_right (by push_cast; omega)]]
  exact BitVec.ofInt_natCast 32 n

theorem nat_eq_zero (n : ℕ) : (((n : ℝ) : EReal) = 0) ↔ n = 0 := by
  constructor
  · intro h; exact_mod_cast h
  · rintro rfl; simp

theorem one_sub_one : (1 : EReal) - 1 = 0 := by
  rw [show (1 : EReal) = ((1 : ℝ) : EReal) from rfl, ← EReal.coe_sub]; simp

variable (s : FVec Ideal S1 .f32) (n : ℕ)

/-! The kernel's side. -/

theorem one_idx (i : S1.Idx) : i = ix1 0 := by
  funext a
  match a with
  | ⟨0, _⟩ => exact Fin.eq_zero _

theorem stp_eff (i : S_.Idx) : (stp (F := Ideal) s i : EReal) = eff (s (ix1 0)) := by
  have e : shapeCast S_ s shapeCasts_S1_S_ i = s (ix1 0) := congrArg s (one_idx _)
  unfold stp eff
  show (if Ideal.cmp .olt (shapeCast S_ s shapeCasts_S1_S_ i) (Ideal.ofBits .f32 0x44FFE000#32) = 1#1 then (shapeCast S_ s shapeCasts_S1_S_ i : EReal) else Ideal.ofBits .f32 0x00000000#32) = _
  rw [e, ofBits_width, Ideal.ofBits_zero_f32]
  exact if_congr ofBool_decide rfl rfl

variable (hn : n < 2047) (he : eff (s (ix1 0)) = ((n : ℝ) : EReal))
include hn he

theorem colH_nat (i : S_.Idx) : colH (F := Ideal) s i = BitVec.ofNat 32 n := by
  show Ideal.fptosi 32 (stp (F := Ideal) s i) = _
  rw [stp_eff, he, fptosi_nat n (by omega)]

theorem begH_nat (i : S_.Idx) : begH (F := Ideal) s i = if n = 0 then 1#32 else 0#32 := by
  show (Ideal.cmp .oeq (stp (F := Ideal) s i) (Ideal.ofBits .f32 0x00000000#32)).setWidth 32 = _
  rw [stp_eff, he, Ideal.ofBits_zero_f32]
  show (BitVec.ofBool (decide _)).setWidth 32 = _
  by_cases h : n = 0
  · simp [h]
  · have := (nat_eq_zero n).not.mpr h
    simp only [this, h, decide_false, if_false]; rfl

/-! The reference's. -/

theorem rstep_nat (i : S1.Idx) : (Cert.ReferenceIdeal.Hand.rstep s i : EReal) = ((n : ℝ) : EReal) := by
  rw [one_idx i, ← he]
  show (((BitVec.toNat (Ideal.cmp .olt (s (ix1 0)) (Ideal.ofBits .f32 0x44FFE000#32)) : ℝ) : EReal)) * (s (ix1 0) : EReal) = _
  rw [ofBits_width]
  unfold eff
  by_cases h : (s (ix1 0) : EReal) < ((2047 : ℝ) : EReal)
  · rw [if_pos h, show Ideal.cmp .olt (s (ix1 0)) ((2047 : ℝ) : EReal) = 1#1 from ofBool_decide.mpr h]
    simp
  · rw [if_neg h, show Ideal.cmp .olt (s (ix1 0)) ((2047 : ℝ) : EReal) = 0#1 from by
      show BitVec.ofBool (decide _) = _
      simp [h]]
    simp

theorem rbeg_nat (i : S1.Idx) : (Cert.ReferenceIdeal.Hand.rbeg s i : EReal) = if n = 0 then 1 else 0 := by
  show (((BitVec.toNat (Ideal.cmp .oeq (Cert.ReferenceIdeal.Hand.rstep s i) (Ideal.ofBits .f32 0x00000000#32)) : ℝ) : EReal)) = _
  rw [rstep_nat s n hn he, Ideal.ofBits_zero_f32]
  by_cases h : n = 0
  · rw [if_pos h, show Ideal.cmp .oeq ((n : ℝ) : EReal) 0 = 1#1 from ofBool_decide.mpr ((nat_eq_zero n).mpr h)]
    simp
  · rw [if_neg h, show Ideal.cmp .oeq ((n : ℝ) : EReal) 0 = 0#1 from by
      have := (nat_eq_zero n).not.mpr h
      show BitVec.ofBool (decide _) = _
      simp only [this, decide_false]; rfl]
    simp

theorem rpos_nat (i : S1.Idx) : (Cert.ReferenceIdeal.Hand.rpos s i : EReal) = ((n : ℝ) : EReal) := by
  show (Ideal.ofBits .f32 0x3F800000#32 - (Cert.ReferenceIdeal.Hand.rbeg s i : EReal)) * (Cert.ReferenceIdeal.Hand.rstep s i : EReal) = _
  rw [rstep_nat s n hn he, rbeg_nat s n hn he, Ideal.ofBits_one_f32]
  by_cases h : n = 0
  · simp [h]
  · simp [h]

theorem ridx_nat (i : S1.Idx) : Cert.ReferenceIdeal.Hand.ridx s i = BitVec.ofNat 32 n := by
  show 1#32 + Ideal.fptosi 32 (Cert.ReferenceIdeal.Hand.rpos s i) - 1#32 = _
  rw [rpos_nat s n hn he, fptosi_nat n (by omega)]
  bv_omega

/-- The buffer: cleared at the first step, kept at the others. -/
theorem rgen_nat (gen : FVec Ideal S64x2047 .f32) (j : S64x2047.Idx) : (Cert.ReferenceIdeal.Hand.rgen gen s j : EReal) = if n = 0 then 0 else gen j := by
  have e : ∀ i : S1.Idx, (Cert.ReferenceIdeal.Hand.rbeg s i : EReal) = if n = 0 then 1 else 0 := rbeg_nat s n hn he
  show (Ideal.ofBits .f32 0x3F800000#32 - (Cert.ReferenceIdeal.Hand.rbeg s _ : EReal)) * (gen j : EReal)
    + (Cert.ReferenceIdeal.Hand.rbeg s _ : EReal) * Ideal.ofBits .f32 0x3F800000#32 * Ideal.ofBits .f32 0x00000000#32 = _
  rw [e, Ideal.ofBits_zero_f32, Ideal.ofBits_one_f32]
  by_cases h : n = 0
  · simp [h, one_sub_one]
  · simp [h]

end Cert.Value

end
-- ==== Proof.Value.Gathers.lean ====
/-
  The reference's two checked reads, at indices in range: a column of the tokens, and rows of the table.
-/
module

public import proofs.«01_k».proof.Proof.RI.Read
public import Idealize.ShloMosaic.Lib.Pointwise
public import Idealize.ShloMosaic.Lib.StableHlo.Predicate

@[expose] public section

noncomputable section

namespace Cert.Value

open Idealize.ShloMosaic Idealize.ShloMosaic.StableHlo.Predicate
open Cert.ReferenceIdeal Cert.ReferenceIdeal.Gen Cert.ReferenceIdeal.Hand

/-- The conjunction of bits that are all one is one. -/
theorem all_one {s t u : Shape} {dims : List (Fin s.rank)} (x : IVec s 1) (h : s.ReducesTo dims t) (hu : 0 < u.numel) (j : t.Idx) (hx : ∀ i, x i = 1#1) :
    Host.reduce IntOp.andi x (constantI u 1 1#1) h hu j = 1#1 := by
  rw [Host.reduce_eq_foldl]
  show List.foldl _ (1#1) _ = 1#1
  generalize List.filter _ _ = l
  induction l with
  | nil => rfl
  | cons a l ih => rw [List.foldl_cons, hx a]; exact ih

/-- An index in range is not wrapped. -/
theorem unwrapped {w : BitVec 32} (h : w.toNat < 2 ^ 31) (z : BitVec 32) : Scalar.select (IntOp.cmpi .slt w 0#32) z w = w := by
  unfold Scalar.select
  exact if_neg fun e => absurd ((slt_iff_toNat h (by decide)).mp e) (by simp)

section Take

variable (x : IVec S64x2048 32) (i : IVec S1 32) (n : ℕ) (hn : n < 2048) (hi : ∀ k, i k = BitVec.ofNat 32 n)
include hn hi

theorem tidx_nat (j : S1x1.Idx) : tidx i j = BitVec.ofNat 32 n := by
  show Scalar.select (IntOp.cmpi .slt (i _) 0#32) (i _ + 2048#32) (i _) = _
  rw [hi]
  exact unwrapped (by rw [BitVec.toNat_ofNat]; omega) _

theorem tok_one (k : S1.Idx) : Hand.tok i k = 1#1 := by
  unfold Hand.tok
  refine all_one _ _ _ _ fun j => ?_
  show IntOp.cmpi .sge (tidx i j) 0#32 &&& IntOp.cmpi .sle (tidx i j) 2047#32 = 1#1
  rw [tidx_nat i n hn hi]
  have e : (BitVec.ofNat 32 n).toNat = n := by rw [BitVec.toNat_ofNat]; omega
  rw [(sge_iff_toNat (a := BitVec.ofNat 32 n) (b := 0#32) (by omega) (by decide)).mpr (by simp),
    (sle_iff_toNat (a := BitVec.ofNat 32 n) (b := 2047#32) (by omega) (by decide)).mpr (by rw [e]; simp; omega)]
  rfl

/-- The column taken is the one named. -/
theorem take_at (r : Fin 64) (k : Fin 1) : takeV x i (ix2 r k) = x (ix2 r ⟨n, hn⟩) := by
  show Scalar.select (Hand.tok i _) (x (gather_S64x2048_S1x1_S64x1_0_1_n_n_1_1_641.operandIdx (ix2 r k) (tidx i))) _ = _
  rw [tok_one i n hn hi]
  show x _ = _
  refine congrArg x ?_
  funext a
  match a with
  | ⟨0, _⟩ => exact Fin.ext (by show 0 + 0 + r.val = r.val; omega)
  | ⟨1, _⟩ =>
    refine Fin.ext ?_
    show min (tidx i _).toInt.toNat (2048 - 1) + 0 + 0 = n
    rw [tidx_nat i n hn hi, toInt_ofNat_small n (by omega)]
    omega

end Take

section Rows

variable (e : FVec Ideal S100000x128 .f32) (i : IVec S64x1 32) (hi : ∀ k, (i k).toNat < 100000)
include hi

theorem eidx_at (j : S64x1x1.Idx) : eidx i j = i (ix2 (j 0) 0) := by
  have e : ∀ q : S64x1.Idx, Scalar.select (IntOp.cmpi .slt (i q) 0#32) (i q + 100000#32) (i q) = i q := fun q =>
    unwrapped (by have := hi q; omega) _
  refine (e _).trans (congrArg i ?_)
  funext a
  match a with
  | ⟨0, _⟩ => rfl
  | ⟨1, _⟩ => exact Fin.eq_zero _

theorem eok_one (k : S64x1.Idx) : eok i k = 1#1 := by
  unfold eok
  refine all_one _ _ _ _ fun j => ?_
  show IntOp.cmpi .sge (eidx i j) 0#32 &&& IntOp.cmpi .sle (eidx i j) 99999#32 = 1#1
  rw [eidx_at i hi]
  have h := hi (ix2 (j 0) 0)
  rw [(sge_iff_toNat (b := 0#32) (by omega) (by decide)).mpr (by simp),
    (sle_iff_toNat (b := 99999#32) (by omega) (by decide)).mpr (by simp; omega)]
  rfl

/-- A row taken is the table's row that the token names. -/
theorem rows_at (r : Fin 64) (k : Fin 1) (a : Fin 128) : rowsV e i (ix3 r k a) = e (ix2 ⟨(i (ix2 r 0)).toNat, hi _⟩ a) := by
  show Scalar.select (eok i _) (e (gather_S100000x128_S64x1x1_S64x1x128_2_0_n_n_0_2_1128.operandIdx (ix3 r k a) (eidx i))) _ = _
  rw [eok_one i hi]
  show e _ = _
  refine congrArg e ?_
  funext b
  match b with
  | ⟨0, _⟩ =>
    refine Fin.ext ?_
    show min (eidx i _).toInt.toNat (100000 - 1) + 0 + 0 = (i (ix2 r 0)).toNat
    rw [eidx_at i hi]
    have h := hi (ix2 r 0)
    show min (i (ix2 r 0)).toInt.toNat (100000 - 1) + 0 + 0 = (i (ix2 r 0)).toNat
    rw [toInt_eq_toNat_of_lt (by omega)]
    omega
  | ⟨1, _⟩ => exact Fin.ext (by show 0 + 0 + a.val = a.val; omega)

end Rows

end Cert.Value

end
-- ==== Proof.Value.Cur.lean ====
/-
  The tokens the two sides read at a step are the same: the given ones at the first, the previous column after it.
-/
module

public import proofs.«01_k».proof.Proof.Value.Step
public import proofs.«01_k».proof.Proof.Value.Gathers

@[expose] public section

noncomputable section

namespace Cert.Value

open Idealize.ShloMosaic Idealize.ShloMosaic.StableHlo.Predicate
open Cert.KernelIdeal Cert.KernelIdeal.Gen Cert.KernelIdeal.Hand

/-- A column of the buffer cut out at a start in range. -/
theorem column_at {α : Type} (gen : S64x2047.Idx → α) (q : ℕ) (hq : q < 2047) (r : Fin 64) :
    Host.dynamicSlice S64x1 gen ![0, (q : ℤ)] sliceFits_S64x2047_S64x1 (ix2 r 0) = gen (ix2 r ⟨q, hq⟩) := by
  rw [Host.dynamicSlice_apply]
  have h0 : Host.clampedStart S64x2047 S64x1 sliceFits_S64x2047_S64x1.1 ![0, (q : ℤ)] 0 = 0 := Host.clampedStart_of_le _ _ 0 0 rfl (by decide)
  have h1 : Host.clampedStart S64x2047 S64x1 sliceFits_S64x2047_S64x1.1 ![0, (q : ℤ)] 1 = q :=
    Host.clampedStart_of_le _ _ 1 q rfl (by show q + 1 ≤ 2047; omega)
  refine congrArg gen ?_
  funext a
  match a with
  | ⟨0, _⟩ => exact Fin.ext ((congrArg (· + r.val) h0).trans (Nat.zero_add _))
  | ⟨1, _⟩ => exact Fin.ext h1

variable (ids : IVec S64x1 32) (gen : FVec Ideal S64x2047 .f32) (s : FVec Ideal S1 .f32) (n : ℕ) (hn : n < 2047) (he : eff (s (ix1 0)) = ((n : ℝ) : EReal))
include hn he

/-- The reference's columns, the one read. -/
theorem cols_at (r : Fin 64) : Cert.ReferenceIdeal.Hand.rcols ids gen s (ix2 r ⟨n, by omega⟩)
    = if h : n = 0 then ids (ix2 r 0) else Ideal.fptosi 32 (gen (ix2 r ⟨n - 1, by omega⟩)) := by
  unfold Cert.ReferenceIdeal.Hand.rcols
  rw [concatenate_pair_apply]
  by_cases h : n = 0
  · rw [dif_pos h]
    refine (dif_pos (by show n < 1; omega)).trans (congrArg ids ?_)
    funext a
    match a with
    | ⟨0, _⟩ => rfl
    | ⟨1, _⟩ => exact Fin.ext h
  · rw [dif_neg h]
    refine (dif_neg (by show ¬ n < 1; omega)).trans ?_
    show Ideal.fptosi 32 (Cert.ReferenceIdeal.Hand.rgen gen s _) = _
    rw [rgen_nat s n hn he, if_neg h]
    refine congrArg (fun q => Ideal.fptosi 32 (gen q)) ?_
    funext a
    match a with
    | ⟨0, _⟩ => rfl
    | ⟨1, _⟩ => rfl

/-- The tokens the reference reads. -/
theorem prevR_at (r : Fin 64) (k : Fin 1) : Cert.ReferenceIdeal.Hand.prevR ids gen s (ix2 r k)
    = if h : n = 0 then ids (ix2 r 0) else Ideal.fptosi 32 (gen (ix2 r ⟨n - 1, by omega⟩)) :=
  (take_at _ _ n (by omega) (ridx_nat s n hn he) r k).trans (cols_at ids gen s n hn he r)

theorem pcol_nat (i : S_.Idx) : pcol (F := Ideal) s i = BitVec.ofNat 32 (n - 1) := by
  show IntOp.maxsi (colH (F := Ideal) s i - 1#32) 0#32 = _
  rw [colH_nat s n hn he]
  by_cases h : n = 0
  · subst h; rfl
  · rw [sub_one_ofNat n (by omega) (by omega)]
    unfold IntOp.maxsi
    have e : (BitVec.ofNat 32 (n - 1)).toInt = ((n - 1 : ℕ) : ℤ) := toInt_ofNat_small _ (by omega)
    split
    · rfl
    · rename_i hlt
      rw [BitVec.slt_iff_toInt_lt, e] at hlt
      have h0 : (0#32).toInt = 0 := rfl
      rw [show n - 1 = 0 by omega]

theorem rcol_nat (i : S_.Idx) : rcol (F := Ideal) s i = BitVec.ofNat 32 (n - 1) := by
  show Scalar.select (IntOp.cmpi .slt (pcol (F := Ideal) s i) 0#32) (pcol (F := Ideal) s i + 2047#32) (pcol (F := Ideal) s i) = _
  rw [pcol_nat s n hn he]
  exact unwrapped (by rw [BitVec.toNat_ofNat]; omega) _

theorem starts_nat : starts (F := Ideal) s = ![0, ((n - 1 : ℕ) : ℤ)] := by
  unfold starts
  rw [rcol_nat s n hn he, toInt_ofNat_small (n - 1) (by omega)]
  rfl

/-- The tokens the kernel reads. -/
theorem curH_at (r : Fin 64) : curH (F := Ideal) ids gen s (ix1 r)
    = if h : n = 0 then ids (ix2 r 0) else Ideal.fptosi 32 (gen (ix2 r ⟨n - 1, by omega⟩)) := by
  show Scalar.select (IntOp.cmpi .eq (begH (F := Ideal) s _) 1#32) (shapeCast S64 ids shapeCasts_S64x1_S64 (ix1 r)) (prevH (F := Ideal) s gen (ix1 r)) = _
  rw [begH_nat s n hn he]
  by_cases h : n = 0
  · rw [dif_pos h, if_pos h]
    show shapeCast S64 ids shapeCasts_S64x1_S64 (ix1 r) = _
    pointwise
  · rw [dif_neg h, if_neg h]
    show Ideal.fptosi 32 (shapeCast S64 (Host.dynamicSlice S64x1 gen (starts (F := Ideal) s) sliceFits_S64x2047_S64x1) shapeCasts_S64x1_S64 (ix1 r)) = _
    refine congrArg (Ideal.fptosi 32) ?_
    rw [show shapeCast S64 (Host.dynamicSlice S64x1 gen (starts (F := Ideal) s) sliceFits_S64x2047_S64x1) shapeCasts_S64x1_S64 (ix1 r)
      = Host.dynamicSlice S64x1 gen (starts (F := Ideal) s) sliceFits_S64x2047_S64x1 (ix2 r 0) from by
        generalize Host.dynamicSlice S64x1 gen (starts (F := Ideal) s) sliceFits_S64x2047_S64x1 = m
        pointwise]
    rw [starts_nat s n hn he]
    exact column_at gen (n - 1) (by omega) r

/-- They are the same. -/
theorem prev_eq (r : Fin 64) (k : Fin 1) : Cert.ReferenceIdeal.Hand.prevR ids gen s (ix2 r k) = curH (F := Ideal) ids gen s (ix1 r) :=
  (prevR_at ids gen s n hn he r k).trans (curH_at ids gen s n hn he r).symm

end Cert.Value

end
-- ==== Proof.Value.Logits.lean ====
/-
  The two sides' logits are the same sums.
-/
module

public import proofs.«01_k».proof.Proof.Value.Merge
public import proofs.«01_k».proof.Proof.Value.Cur
public import proofs.«01_k».proof.Proof.KI.Run

@[expose] public section

noncomputable section

namespace Cert.Value

open Idealize.ShloMosaic Idealize.ShloMosaic.TcCoe

/-- The reference's logits. -/
theorem logitsV_at (x : FVec Ideal Cert.ReferenceIdeal.S64x1x128 .f32) (w : FVec Ideal Cert.ReferenceIdeal.S128x100000 .f32) (b : FVec Ideal Cert.ReferenceIdeal.S100000 .f32)
    (r : Fin 64) (k : Fin 100000) :
    (Cert.ReferenceIdeal.Hand.logitsV x w b (ix2 r k) : EReal) = (∑ a : Fin 128, (x (ix3 r 0 a) : EReal) * w (ix2 a k)) + b (ix1 k) := by
  unfold Cert.ReferenceIdeal.Hand.logitsV
  pointwise [Cert.ReferenceIdeal.dot_S64x1x128_S128x100000_S64x1x100000_2_0_01_1_n_n]

open Cert.KernelIdeal Cert.KernelIdeal.Gen Cert.KernelIdeal.Hand

/-- The padded bias, where it is not padding. -/
theorem bias_at (b : FVec Ideal S100000 .f32) (z : FVec Ideal S_ .f32) (k : Fin 100000) (h : k.val < 106496) :
    pad S1x106496 ![0, 0] ![0, 6496] ![0, 0] (shapeCast S1x100000 b shapeCasts_S100000_S1x100000) z pads_S1x100000_S1x106496_000_064960 h_S_ (ix2 (0 : Fin 1) ⟨k.val, h⟩) = b (ix1 k) := by
  pointwise

end Cert.Value

end
-- ==== Proof.Value.RefArg.lean ====
/-
  The reference's arg-max of a row of logits is the first position of its greatest entry.
-/
module

public import proofs.«01_k».proof.Proof.Gen.ReferenceIdeal
public import proofs.«01_k».proof.Proof.Value.Argmax

@[expose] public section

noncomputable section

namespace Cert.Value

open Idealize.ShloMosaic
open Cert.ReferenceIdeal Cert.ReferenceIdeal.Gen

theorem ofBool_one {b : Bool} : BitVec.ofBool b = 1#1 ↔ b = true := by cases b <;> decide
theorem ofBool_or (a b : Bool) : BitVec.ofBool a ||| BitVec.ofBool b = BitVec.ofBool (a || b) := by cases a <;> cases b <;> rfl
theorem ofBool_and (a b : Bool) : BitVec.ofBool a &&& BitVec.ofBool b = BitVec.ofBool (a && b) := by cases a <;> cases b <;> rfl

/-- The reference's reducer keeps the greater value and, of equal values, the smaller position. -/
theorem reducer_eq (a b : EReal × BitVec 32) :
    reducer_argmax_f32_i32 (F := Ideal) a b = if b.1 < a.1 ∨ (a.1 = b.1 ∧ a.2.toInt < b.2.toInt) then a else b := by
  obtain ⟨x, i⟩ := a
  obtain ⟨y, k⟩ := b
  have e : reducer_argmax_f32_i32 (F := Ideal) (x, i) (y, k)
      = (Scalar.select (BitVec.ofBool (decide (y < x)) ||| BitVec.ofBool (decide (x ≠ x))) x y,
        Scalar.select ((BitVec.ofBool (decide (y < x)) ||| BitVec.ofBool (decide (x ≠ x))) ||| (BitVec.ofBool (decide (x = y)) &&& BitVec.ofBool (i.slt k))) i k) := rfl
  rw [e]
  simp only [ofBool_or, ofBool_and, ne_eq, not_true_eq_false, decide_false, Bool.or_false]
  unfold Scalar.select
  rw [show (1 : BitVec 1) = 1#1 from rfl]
  simp only [ofBool_one, Bool.or_eq_true, Bool.and_eq_true, decide_eq_true_eq, BitVec.slt_iff_toInt_lt]
  by_cases h1 : y < x
  · simp [h1]
  · by_cases h2 : x = y ∧ i.toInt < k.toInt
    · simp [h2]
    · simp [h1, h2]

theorem ref_isArg (x : FVec Ideal S64x100000 .f32) (r : Fin 64) :
    IsArg (fun k : Fin 100000 => (x (ix2 r k) : EReal))
      (Host.argReduce (F := Ideal) reducer_argmax_f32_i32 x (iotaInDim S64x100000 32 1) (constant S_ .f32 0xFF800000#32 : FVec Ideal S_ .f32) (constantI S_ 32 0#32)
        reducesTo_S64x100000_S64_d1 h_S_ (ix1 r)).2 := by
  rw [Ideal.argReduce_eq_reduce2, Host.reduce2_eq_foldl_fiber]
  have hb : (constant S_ .f32 0xFF800000#32 : FVec Ideal S_ .f32) (Shape.Idx.first h_S_) = (⊥ : EReal) := by
    show Ideal.ofBits .f32 0xFF800000#32 = ⊥
    simp [Ideal.ofBits, Ideal.ieee]
  rw [hb]
  have hd : ∀ i : S64x100000.Idx, reducesTo_S64x100000_S64_d1.drop i = ix1 r ↔ i 0 = r := fun i => by
    have e : ∀ b, (reducesTo_S64x100000_S64_d1.drop i b).val = (i 0).val := fun b => by
      obtain ⟨b, hb⟩ := b
      obtain rfl : b = 0 := by change b < 1 at hb; omega
      exact reducesTo_S64x100000_S64_d1.drop_apply_val_of_eq i ⟨0, Nat.one_pos⟩ 0 Nat.one_pos rfl
    constructor
    · exact fun hd => Fin.ext ((e ⟨0, Nat.one_pos⟩).symm.trans (congrArg Fin.val (congrFun hd ⟨0, Nat.one_pos⟩)))
    · intro hr
      funext b
      match b with
      | ⟨0, _⟩ => exact Fin.ext ((e _).trans (congrArg Fin.val hr))
  refine pairs_isArg (N := 100000) (by decide) (by decide) (fun k => x (ix2 r k)) _ (fun p hp => ?_) (fun k => ?_) _ reducer_eq
  · obtain ⟨n, hn, e⟩ := List.mem_map.mp hp
    have hr := (hd _).mp (of_decide_eq_true (List.mem_filter.mp hn).2)
    refine ⟨(S64x100000.rowMajor.symm n) 1, e.symm.trans ?_⟩
    have e2 : S64x100000.rowMajor.symm n = ix2 r ((S64x100000.rowMajor.symm n) 1) := (eq_ix2 _).trans (congrArg (fun q => ix2 q ((S64x100000.rowMajor.symm n) 1)) hr)
    exact Prod.ext (congrArg x e2) rfl
  · refine List.mem_map.mpr ⟨S64x100000.rowMajor (ix2 r k), List.mem_filter.mpr ⟨List.mem_finRange _, decide_eq_true ?_⟩, ?_⟩
    · rw [Equiv.symm_apply_apply]; exact (hd _).mpr rfl
    · rw [Equiv.symm_apply_apply]; rfl

end Cert.Value

end
-- ==== Proof.Value.Tokens.lean ====
/-
  The token of a row: both programs give the first largest entry of the same 100000 logits, unless the row has ended.
-/
module

public import proofs.«01_k».proof.Proof.Value.Logits
public import proofs.«01_k».proof.Proof.Value.RefArg
public import proofs.«01_k».proof.Proof.KI.Bound

@[expose] public section

noncomputable section

namespace Cert.Value

open Idealize.ShloMosaic Idealize.ShloMosaic.TcCoe Idealize.ShloMosaic.Tactic
open Cert.KernelIdeal Cert.KernelIdeal.Gen Cert.KernelIdeal.Hand

/-- A row of the gathered embeddings, for a word that names one. -/
theorem gathered_at (f1 : IVec S64 32) (fe : FVec Ideal S100000x128 .f32) (h : ∀ j, (f1 j).toNat < 100000) (r : Fin 64) (a : Fin 128) :
    gathered (F := Ideal) f1 fe (ix2 r a) = fe (ix2 ⟨(f1 (ix1 r)).toNat, h _⟩ a) := by
  unfold gathered
  congr 1
  funext b
  refine Fin.cases ?_ (fun b => ?_) b
  · apply Fin.ext
    show (f1 _).toNat % 100000 = (f1 (ix1 r)).toNat
    rw [Nat.mod_eq_of_lt (h _)]
    congr 2
    funext b
    fin_cases b
    rfl
  · fin_cases b
    rfl

/-- A column read at a row. -/
theorem down_at (x : IVec S64 32) (r : Fin 64) (k : Fin 1) : broadcastInDim S64x1 ![0] bcast_S64_S64x1_0 x (ix2 r k) = x (ix1 r) := by
  pointwise

/-- The ended rows' arithmetic is a choice. -/
theorem ended (x y : BitVec 32) :
    IntOp.addi (IntOp.muli ((IntOp.cmpi .eq x 2#32).setWidth 32) 2#32)
      (IntOp.muli (IntOp.subi 1#32 ((IntOp.cmpi .eq x 2#32).setWidth 32)) y) = if x = 2#32 then 2#32 else y := by
  unfold IntOp.addi IntOp.muli IntOp.subi IntOp.cmpi
  by_cases h : x = 2#32
  · subst h; simp
  · have h' : (x == 2#32) = false := by simpa using h
    simp [h, h']

theorem outV_at (prev next : IVec S64x1 32) (r : Fin 64) (k : Fin 1) :
    Cert.ReferenceIdeal.Hand.outV prev next (ix2 r k) = if prev (ix2 r k) = 2#32 then 2#32 else next (ix2 r k) :=
  ended _ _

/-- One of two equal columns for the other. -/
theorem isArg_of_eq {N : ℕ} (L : Fin N → EReal) (f g : IVec Cert.ReferenceIdeal.S64 32) (h : f = g) (i : Cert.ReferenceIdeal.S64.Idx) (hg : IsArg L (g i)) : IsArg L (f i) :=
  h ▸ hg

/-- The reference's column of arg-maxes, as its reduction. -/
theorem argV_eq (x : FVec Ideal Cert.ReferenceIdeal.S64x100000 .f32) : Cert.ReferenceIdeal.Hand.argV x = fun j =>
    (Host.argReduce (F := Ideal) Cert.ReferenceIdeal.reducer_argmax_f32_i32 x (iotaInDim Cert.ReferenceIdeal.S64x100000 32 1)
      (constant Cert.ReferenceIdeal.S_ .f32 0xFF800000#32 : FVec Ideal Cert.ReferenceIdeal.S_ .f32) (constantI Cert.ReferenceIdeal.S_ 32 0#32)
      Cert.ReferenceIdeal.Gen.reducesTo_S64x100000_S64_d1 Cert.ReferenceIdeal.Gen.h_S_ j).2 := rfl

/-- A word that is the arg-max of the reference's logits in a row is the reference's. -/
theorem arg_unique (x : FVec Ideal Cert.ReferenceIdeal.S64x100000 .f32) (r : Fin 64) (L : Fin 100000 → EReal) (w : BitVec 32)
    (e : ∀ k, L k = x (ix2 r k)) (h : IsArg L w) : w = Cert.ReferenceIdeal.Hand.argV x (ix1 r) := by
  obtain rfl : L = fun k => x (ix2 r k) := funext e
  exact h.unique (isArg_of_eq _ _ _ (argV_eq x) (ix1 r) (ref_isArg x r))

/-- The tokens agree where the tokens read and the arg-maxes do. -/
theorem tok_of (cur : IVec S64x1 32) (pv : FVec Ideal S64x1664 .f32) (pi : IVec S64x1664 32) (prev : IVec S64x1 32) (a : IVec S64 32)
    (hc : ∀ (r : Fin 64) (k : Fin 1), cur (ix2 r k) = prev (ix2 r k)) (ha : ∀ r, word pv pi r = a (ix1 r)) :
    mergeTok (F := Ideal) cur pv pi = Cert.ReferenceIdeal.Hand.outV prev (broadcastInDim S64x1 ![0] bcast_S64_S64x1_0 a) := by
  funext j
  obtain ⟨r, k, rfl⟩ : ∃ (r : Fin 64) (k : Fin 1), j = ix2 r k := ⟨j 0, j 1, eq_ix2 j⟩
  refine (tok_at pv pi cur r k).trans ?_
  refine Eq.trans ?_ (outV_at _ _ r k).symm
  rw [hc, ha, down_at]

section
variable (m : (ℓ : Loc nD τ sig) → Buf (Elt Ideal) ℓ) (c : Dev nD)

/-- The kernel's arguments on a core: the ids, -/
abbrev aIds : IVec S64x1 32 := V0 m c main_arg0
/-- the embeddings, -/
abbrev aEmb : FVec Ideal S100000x128 .f32 := V0 m c main_arg1
/-- the output weights, -/
abbrev aWgt : FVec Ideal S128x100000 .f32 := V0 m c main_arg2
/-- the bias, -/
abbrev aBias : FVec Ideal S100000 .f32 := V0 m c main_arg3
/-- the tokens generated, -/
abbrev aGen : FVec Ideal S64x2047 .f32 := V0 m c main_arg4
/-- the step. -/
abbrev aStep : FVec Ideal S1 .f32 := V0 m c main_arg5

/-- The reference's logits, of the kernel's arguments. -/
abbrev refLogits : FVec Ideal Cert.ReferenceIdeal.S64x100000 .f32 :=
  Cert.ReferenceIdeal.Hand.logitsV (Cert.ReferenceIdeal.Hand.rowsV (aEmb m c)
    (Cert.ReferenceIdeal.Hand.prevR (aIds m c) (aGen m c) (aStep m c))) (aWgt m c) (aBias m c)

theorem logit_eq (n : ℕ) (hn : n < 2047) (he : eff ((aStep m c) (ix1 0)) = ((n : ℝ) : EReal))
    (hi : ∀ i, (aIds m c i).toNat < 100000)
    (hg : ∀ j, (fptosi 32 (aGen m c) j : BitVec 32).toNat < 100000) (r : Fin 64) (k : Fin 100000) :
    logit (W7 (V6 m c)) r k = refLogits m c (ix2 r k) := by
  have hc := curH_lt (F := Ideal) (aIds m c) (aGen m c) (aStep m c) hi hg
  have hp : ∀ j, (Cert.ReferenceIdeal.Hand.prevR (aIds m c) (aGen m c) (aStep m c) j).toNat < 100000 := fun j => by
    obtain ⟨r, k, rfl⟩ : ∃ (r : Fin 64) (k : Fin 1), j = ix2 r k := ⟨j 0, j 1, eq_ix2 j⟩
    rw [prev_eq _ _ _ n hn he]
    exact hc _
  have hb : W7 (V6 m c) main_v19 = V6 m c main_v19 := W7_of _ main_v19 (by decide)
  have hw : W7 (V6 m c) main_arg2 = aWgt m c := (W7_of _ main_arg2 (by decide)).trans (V6_arg m c main_arg2 (by decide) (by decide) (by decide) (by decide) (by decide) (by decide))
  have hx : ∀ a : Fin 128, W7 (V6 m c) main_v20 (ix2 r a)
      = Cert.ReferenceIdeal.Hand.rowsV (aEmb m c) (Cert.ReferenceIdeal.Hand.prevR (aIds m c) (aGen m c) (aStep m c)) (ix3 r 0 a) := fun a => by
    rw [W7_v20, V6_v16, V6_arg m c main_arg1 (by decide) (by decide) (by decide) (by decide) (by decide) (by decide), rows_at _ _ hp]
    refine (gathered_at _ _ hc r a).trans ?_
    congr 2
    apply Fin.ext
    show (curH (F := Ideal) _ _ _ (ix1 r)).toNat = _
    rw [← prev_eq (aIds m c) (aGen m c) (aStep m c) n hn he r 0]
  refine Eq.trans ?_ (logitsV_at _ _ _ r k).symm
  unfold logit
  rw [hb, hw, V6_v19]
  refine congrArg₂ (· + ·) (Finset.sum_congr rfl fun a _ => ?_) (bias_at _ _ k _)
  exact congrArg (fun z : EReal => z * (aWgt m c (ix2 a k) : EReal)) (hx a)

/-- The word the last call finds is the reference's arg-max. -/
theorem word_eq (n : ℕ) (hn : n < 2047) (he : eff (aStep m c (ix1 0)) = ((n : ℝ) : EReal)) (hi : ∀ i, (aIds m c i).toNat < 100000)
    (hg : ∀ j, (fptosi 32 (aGen m c) j : BitVec 32).toNat < 100000)
    (pv : FVec Ideal S64x1664 .f32) (pi : IVec S64x1664 32) (h : Rel1 (W7 (V6 m c)) pv pi) (r : Fin 64) :
    word pv pi r = Cert.ReferenceIdeal.Hand.argV (refLogits m c) (ix1 r) :=
  arg_unique (refLogits m c) r _ _ (fun k => logit_eq m c n hn he hi hg r k) (word_isArg _ r pv pi h)

/-- The kernel's tokens, as the last call computes them, are the reference's. -/
theorem tok_eq (n : ℕ) (hn : n < 2047) (he : eff (aStep m c (ix1 0)) = ((n : ℝ) : EReal)) (hi : ∀ i, (aIds m c i).toNat < 100000)
    (hg : ∀ j, (fptosi 32 (aGen m c) j : BitVec 32).toNat < 100000)
    (pv : FVec Ideal S64x1664 .f32) (pi : IVec S64x1664 32) (h : Rel1 (W7 (V6 m c)) pv pi) :
    mergeTok (F := Ideal) (V6 m c main_v17) pv pi
      = Cert.ReferenceIdeal.Hand.tokR (aIds m c) (aEmb m c) (aWgt m c) (aBias m c) (aGen m c) (aStep m c) := by
  refine tok_of _ pv pi _ _ (fun r k => ?_) (word_eq m c n hn he hi hg pv pi h)
  rw [V6_v17]
  exact (down_at _ r k).trans (prev_eq _ _ _ n hn he r k).symm

end

end Cert.Value

end
-- ==== Proof.Value.Buffer.lean ====
/-
  The buffer and the step: the kernel selects the column, the reference scatters into it.
-/
module

public import proofs.«01_k».proof.Proof.Value.Step
public import proofs.«01_k».proof.Proof.Value.Gathers
public import proofs.«01_k».proof.Proof.Value.Merge
public import Idealize.ShloMosaic.Lib.Routing.OpsOne

@[expose] public section

noncomputable section

namespace Cert.Value

open Idealize.ShloMosaic Idealize.ShloMosaic.TcCoe
open Cert.KernelIdeal Cert.KernelIdeal.Gen Cert.KernelIdeal.Hand

/-- A run of updates none of which lands. -/
theorem foldl_miss {A B : Type} (L : List A) (p : A → Prop) [DecidablePred p] (g : B → A → B) (z : B) (h : ∀ b ∈ L, ¬ p b) :
    L.foldl (fun z b => if p b then g z b else z) z = z := by
  induction L generalizing z with
  | nil => rfl
  | cons b L ih =>
    rw [List.foldl_cons, if_neg (h b (List.mem_cons_self ..))]
    exact ih z fun b' hb' => h b' (List.mem_cons_of_mem _ hb')

/-- A run of updates just one of which lands. -/
theorem foldl_hit {A B : Type} (L : List A) (p : A → Prop) [DecidablePred p] (g : B → A → B) (z : B) (hnd : L.Nodup) (a : A) (ha : a ∈ L) (hp : p a)
    (h : ∀ b ∈ L, p b → b = a) : L.foldl (fun z b => if p b then g z b else z) z = g z a := by
  induction L generalizing z with
  | nil => exact absurd ha (List.not_mem_nil)
  | cons b L ih =>
    have hn := List.nodup_cons.mp hnd
    rw [List.foldl_cons]
    by_cases hb : p b
    · obtain rfl : b = a := h b (List.mem_cons_self ..) hb
      rw [if_pos hb]
      exact foldl_miss L p g _ fun b' hb' hpb => hn.1 (h b' (List.mem_cons_of_mem _ hb') hpb ▸ hb')
    · rw [if_neg hb]
      rcases List.mem_cons.mp ha with rfl | ha'
      · exact absurd hp hb
      · exact ih z hn.2 ha' fun b' hb' => h b' (List.mem_cons_of_mem _ hb')

/-- The scatter into one column, at an entry. -/
theorem scatter_at (x : FVec Ideal Cert.ReferenceIdeal.S64x2047 .f32) (idx : IVec Cert.ReferenceIdeal.S1 32) (u : FVec Ideal Cert.ReferenceIdeal.S64 .f32)
    (n : Fin 2047) (hi : idx (ix1 0) = BitVec.ofNat 32 n.val) (r : Fin 64) (k : Fin 2047) :
    Host.scatter Cert.ReferenceIdeal.scatter_S64x2047_S1_S64_0_1_1_0 (FloatOps.addf (F := Ideal) (φ := .f32)) x idx u (ix2 r k)
      = if k = n then FloatOps.addf (F := Ideal) (φ := .f32) (x (ix2 r k)) (u (ix1 r)) else x (ix2 r k) := by
  have hl : ∀ r', Cert.ReferenceIdeal.scatter_S64x2047_S1_S64_0_1_1_0.resultIdx? (ix1 r') idx = some (ix2 r k) ↔ r' = r ∧ k = n := fun r' =>
    Routing.lands_col Cert.ReferenceIdeal.scatter_S64x2047_S1_S64_0_1_1_0 rfl rfl idx n
      (by rw [show idx (ValueIdx.ix1 0) = BitVec.ofNat 32 n.val from hi, StableHlo.Predicate.toInt_ofNat_small _ (by omega)]) r' r k
  have hb : ∀ b, Cert.ReferenceIdeal.scatter_S64x2047_S1_S64_0_1_1_0.resultIdx? (Cert.ReferenceIdeal.S64.rowMajor.symm b) idx = some (ix2 r k)
      → Cert.ReferenceIdeal.S64.rowMajor.symm b = ix1 r ∧ k = n := fun b h => by
    obtain ⟨r', e⟩ : ∃ r' : Fin 64, Cert.ReferenceIdeal.S64.rowMajor.symm b = ix1 r' := ⟨_, eq_ix1 _⟩
    rw [e] at h ⊢
    obtain ⟨rfl, h2⟩ := (hl r').mp h
    exact ⟨rfl, h2⟩
  rw [Routing.scatter_at]
  by_cases h : k = n
  · rw [if_pos h]
    refine (foldl_hit (List.finRange Cert.ReferenceIdeal.S64.numel) _ _ _ (List.nodup_finRange _) (Cert.ReferenceIdeal.S64.rowMajor (ix1 r)) (List.mem_finRange _) ?_ fun b _ h' => ?_).trans ?_
    · rw [Equiv.symm_apply_apply]
      exact (hl r).mpr ⟨rfl, h⟩
    · rw [← (hb b h').1, Equiv.apply_symm_apply]
    · rw [Equiv.symm_apply_apply]
  · rw [if_neg h]
    exact foldl_miss _ _ _ _ fun b _ h' => h (hb b h').2

/-- The word written at. -/
theorem widx_at (p : IVec S1 32) (n : ℕ) (hn : n < 2047) (hp : ∀ i, p i = BitVec.ofNat 32 n) : Cert.ReferenceIdeal.Hand.widx p (ix1 0) = BitVec.ofNat 32 n := by
  have e : ∀ i, shapeCast Cert.ReferenceIdeal.S_ p Cert.ReferenceIdeal.Gen.shapeCasts_S1_S_ i = BitVec.ofNat 32 n := fun i => hp _
  show Scalar.select (IntOp.cmpi .slt (shapeCast Cert.ReferenceIdeal.S_ p Cert.ReferenceIdeal.Gen.shapeCasts_S1_S_ _) 0#32)
    (shapeCast Cert.ReferenceIdeal.S_ p Cert.ReferenceIdeal.Gen.shapeCasts_S1_S_ _ + 2047#32) (shapeCast Cert.ReferenceIdeal.S_ p Cert.ReferenceIdeal.Gen.shapeCasts_S1_S_ _) = _
  rw [e]
  exact unwrapped (by rw [BitVec.toNat_ofNat]; omega) _

/-- The reference's buffer at an entry. -/
theorem bufV_at (g : FVec Ideal S64x2047 .f32) (p : IVec S1 32) (o : IVec S64x1 32) (n : ℕ) (hn : n < 2047) (hp : ∀ i, p i = BitVec.ofNat 32 n) (r : Fin 64) (k : Fin 2047) :
    (Cert.ReferenceIdeal.Hand.bufV g p o (ix2 r k) : EReal)
      = if k.val = n then (g (ix2 r k) : EReal) + ((o (ix2 r 0)).toInt : ℝ) else g (ix2 r k) := by
  unfold Cert.ReferenceIdeal.Hand.bufV
  refine (scatter_at g _ _ ⟨n, hn⟩ (widx_at p n hn hp) r k).trans ?_
  by_cases h : k.val = n
  · rw [if_pos (Fin.ext h), if_pos h]
    refine congrArg (fun z : EReal => (g (ix2 r k) : EReal) + z) ?_
    show (((shapeCast Cert.ReferenceIdeal.S64 o Cert.ReferenceIdeal.Gen.shapeCasts_S64x1_S64 (ix1 r) - 0#32).toInt : ℝ) : EReal) = _
    rw [BitVec.sub_zero]
    refine congrArg (fun w : BitVec 32 => ((w.toInt : ℝ) : EReal)) ?_
    pointwise
  · rw [if_neg fun e => h (congrArg Fin.val e), if_neg h]

/-- The kernel's buffer at an entry. -/
theorem mergeBuf_at (tb : IVec S2 32) (cur : IVec S64x1 32) (pv : FVec Ideal S64x1664 .f32) (pi : IVec S64x1664 32) (gen : FVec Ideal S64x2047 .f32)
    (n : ℕ) (hn : n < 2047) (h0 : tcol (F := Ideal) tb = BitVec.ofNat 32 n) (h1 : tbeg (F := Ideal) tb = if n = 0 then 1#32 else 0#32) (r : Fin 64) (k : Fin 2047) :
    (mergeBuf (F := Ideal) tb cur pv pi gen (ix2 r k) : EReal)
      = (if n = 0 then 0 else (gen (ix2 r k) : EReal)) + if k.val = n then (((mergeTok (F := Ideal) cur pv pi (ix2 r 0)).toInt : ℝ) : EReal) else 0 := by
  unfold mergeBuf
  have hk : k2_pay4 (F := Ideal) (tbeg (F := Ideal) tb) gen (ix2 r k) = if n = 0 then (0 : EReal) else gen (ix2 r k) := by
    rw [h1]
    show (gen (ix2 r k) : EReal) * (Ideal.ofBits .f32 0x3F800000#32 - (((if n = 0 then 1#32 else 0#32 : BitVec 32).toInt : ℝ) : EReal))
      + (Ideal.ofBits .f32 0x3F800000#32 - (Ideal.ofBits .f32 0x3F800000#32 - (((if n = 0 then 1#32 else 0#32 : BitVec 32).toInt : ℝ) : EReal))) * Ideal.ofBits .f32 0x00000000#32 = _
    rw [Ideal.ofBits_zero_f32, Ideal.ofBits_one_f32]
    by_cases h : n = 0
    · simp [h, one_sub_one]
    · simp [h]
  have hs : k2_pay6 (F := Ideal) pv pi cur (ix2 r 0) = (((mergeTok (F := Ideal) cur pv pi (ix2 r 0)).toInt : ℝ) : EReal) := by
    show (((mergeTok (F := Ideal) cur pv pi (ix2 r 0)).toInt : ℝ) : EReal) - Ideal.ofBits .f32 0x00000000#32 = _
    rw [Ideal.ofBits_zero_f32, sub_zero]
  have hm : k2_pay5 (F := Ideal) (tcol (F := Ideal) tb) (ix2 r k) = IntOp.cmpi .eq (BitVec.ofNat 32 k.val) (BitVec.ofNat 32 n) := by
    rw [h0]
    unfold k2_pay5
    pointwise
  rw [← hs, ← hk]
  generalize k2_pay4 (F := Ideal) (tbeg (F := Ideal) tb) gen = A
  generalize k2_pay6 (F := Ideal) pv pi cur = B
  have e : k2_pay1 (F := Ideal) A (k2_pay5 (F := Ideal) (tcol (F := Ideal) tb)) B (Scalar.ofBits .f32 0x00000000#32) (ix2 r k)
      = (A (ix2 r k) : EReal) + Scalar.select (k2_pay5 (F := Ideal) (tcol (F := Ideal) tb) (ix2 r k)) (B (ix2 r 0) : EReal) (Ideal.ofBits .f32 0x00000000#32) := by
    generalize k2_pay5 (F := Ideal) (tcol (F := Ideal) tb) = M
    unfold k2_pay1
    pointwise
  rw [e, hm, select_eq, Ideal.ofBits_zero_f32]
  refine congrArg (fun z : EReal => (A (ix2 r k) : EReal) + z) ?_
  by_cases h : k.val = n
  · rw [if_pos h, if_pos (by rw [h])]
  · rw [if_neg h, if_neg]
    intro h'
    apply h
    have := congrArg BitVec.toNat h'
    simp only [BitVec.toNat_ofNat] at this
    omega

/-- The buffers agree where the tokens do. -/
theorem buf_of (tb : IVec S2 32) (cur : IVec S64x1 32) (pv : FVec Ideal S64x1664 .f32) (pi : IVec S64x1664 32) (gen : FVec Ideal S64x2047 .f32) (s : FVec Ideal S1 .f32)
    (n : ℕ) (hn : n < 2047) (he : eff (s (ix1 0)) = ((n : ℝ) : EReal))
    (h0 : tcol (F := Ideal) tb = BitVec.ofNat 32 n) (h1 : tbeg (F := Ideal) tb = if n = 0 then 1#32 else 0#32)
    (o : IVec S64x1 32) (ho : mergeTok (F := Ideal) cur pv pi = o) :
    mergeBuf (F := Ideal) tb cur pv pi gen
      = Cert.ReferenceIdeal.Hand.bufV (Cert.ReferenceIdeal.Hand.rgen gen s) (fptosi 32 (Cert.ReferenceIdeal.Hand.rpos s)) o := by
  funext j
  obtain ⟨r, k, rfl⟩ : ∃ (r : Fin 64) (k : Fin 2047), j = ix2 r k := ⟨j 0, j 1, eq_ix2 j⟩
  refine (mergeBuf_at tb cur pv pi gen n hn h0 h1 r k).trans ?_
  refine Eq.trans ?_ (bufV_at _ _ o n hn (fun i => ?_) r k).symm
  · rw [ho, rgen_nat s n hn he gen (ix2 r k)]
    by_cases h : k.val = n
    · rw [if_pos h, if_pos h]
    · rw [if_neg h, if_neg h, add_zero]
  · show Ideal.fptosi 32 (Cert.ReferenceIdeal.Hand.rpos s i) = _
    rw [rpos_nat s n hn he, fptosi_nat n (by omega)]

/-- The steps agree. -/
theorem step_of (tb : IVec S2 32) (s : FVec Ideal S1 .f32) (n : ℕ) (hn : n < 2047) (he : eff (s (ix1 0)) = ((n : ℝ) : EReal))
    (h0 : tcol (F := Ideal) tb = BitVec.ofNat 32 n) :
    mergeStep (F := Ideal) tb = addf (Cert.ReferenceIdeal.Hand.rpos s)
      (broadcastInDim Cert.ReferenceIdeal.S1 ![] Cert.ReferenceIdeal.Gen.bcast_S_S1 (constant (F := Ideal) Cert.ReferenceIdeal.S_ .f32 0x3F800000#32)) := by
  funext i
  unfold mergeStep
  rw [h0]
  show ((((BitVec.ofNat 32 n).toInt : ℝ) : EReal)) + Ideal.ofBits .f32 0x3F800000#32 = (Cert.ReferenceIdeal.Hand.rpos s i : EReal) + Ideal.ofBits .f32 0x3F800000#32
  rw [rpos_nat s n hn he, StableHlo.Predicate.toInt_ofNat_small _ (by omega)]
  simp

end Cert.Value

end
-- ==== Proof.Value.Ends.lean ====
/-
  What the kernel ends with is what the reference computes of the same arguments.
-/
module

public import proofs.«01_k».proof.Proof.Value.Tokens
public import proofs.«01_k».proof.Proof.Value.Buffer

@[expose] public section

noncomputable section

namespace Cert.Value

open Idealize.ShloMosaic Idealize.ShloMosaic.TcCoe
open Cert.KernelIdeal Cert.KernelIdeal.Gen Cert.KernelIdeal.Hand

variable (m : (ℓ : Loc nD τ sig) → Buf (Elt Ideal) ℓ) (c : Dev nD) (pv : FVec Ideal S64x1664 .f32) (pi : IVec S64x1664 32)

/-- What the last call is entered with. -/
abbrev V9 : Valuation τ sig (Elt Ideal) := StableHlo.after hostOps2 (W8 (W7 (V6 m c)) pv pi)

/-- A buffer that neither the calls nor the table's making write. -/
theorem V9_of (r : Ref sig .tc) (h6 : r ∉ hostOps2_W) (h7 : r ≠ main_v20) (h8 : r ≠ main_v21_0) (h9 : r ≠ main_v21_1) :
    V9 m c pv pi (Proc.devRef .tc r) = V6 m c r :=
  (StableHlo.after_of_writes_sub hostOps2 _ hostOps2_writes h6).trans ((W8_of (F := Ideal) (W7 (V6 m c)) pv pi r h8 h9).trans (W7_of (F := Ideal) (V6 m c) r h7))

theorem V9_0 : V9 m c pv pi main_v21_0 = pv := (StableHlo.after_of_writes_sub hostOps2 _ hostOps2_writes (by decide)).trans (W8_0 (F := Ideal) (W7 (V6 m c)) pv pi)
theorem V9_1 : V9 m c pv pi main_v21_1 = pi := (StableHlo.after_of_writes_sub hostOps2 _ hostOps2_writes (by decide)).trans (W8_1 (F := Ideal) (W7 (V6 m c)) pv pi)

/-- The table's two words. -/
theorem pair_0 (a b : IVec S_ 32) (w : BitVec 32) (h : ∀ i, a i = w) :
    tcol (F := Ideal) (concatenate S2 0 [⟨S1, broadcastInDim S1 ![] bcast_S_S1 a⟩, ⟨S1, broadcastInDim S1 ![] bcast_S_S1 b⟩] concatenates_S1_S1_S2_d0) = w := by
  unfold tcol
  rw [concatenate_pair_apply]
  exact (dif_pos (by show 0 < 1; omega)).trans (h _)

theorem pair_1 (a b : IVec S_ 32) (w : BitVec 32) (h : ∀ i, b i = w) :
    tbeg (F := Ideal) (concatenate S2 0 [⟨S1, broadcastInDim S1 ![] bcast_S_S1 a⟩, ⟨S1, broadcastInDim S1 ![] bcast_S_S1 b⟩] concatenates_S1_S1_S2_d0) = w := by
  unfold tbeg
  rw [concatenate_pair_apply]
  exact (dif_neg (by show ¬ 1 < 1; omega)).trans (h _)

theorem V9_tab : (V9 m c pv pi main_v24 : IVec S2 32)
    = concatenate S2 0 [⟨S1, broadcastInDim S1 ![] bcast_S_S1 (colH (F := Ideal) (aStep m c))⟩, ⟨S1, broadcastInDim S1 ![] bcast_S_S1 (begH (F := Ideal) (aStep m c))⟩] concatenates_S1_S1_S2_d0 := by
  have h5 : W8 (W7 (V6 m c)) pv pi main_v5 = colH (F := Ideal) (aStep m c) := (W8_of (F := Ideal) (W7 (V6 m c)) pv pi main_v5 (by decide) (by decide)).trans ((W7_of (F := Ideal) (V6 m c) main_v5 (by decide)).trans (V6_v5 m c))
  have h4 : W8 (W7 (V6 m c)) pv pi main_v4 = begH (F := Ideal) (aStep m c) := (W8_of (F := Ideal) (W7 (V6 m c)) pv pi main_v4 (by decide) (by decide)).trans ((W7_of (F := Ideal) (V6 m c) main_v4 (by decide)).trans (V6_v4 m c))
  refine (tab2_eq _).trans ?_
  rw [h5, h4]

variable (n : ℕ) (hn : n < 2047) (he : eff (aStep m c (ix1 0)) = ((n : ℝ) : EReal)) (hi : ∀ i, (aIds m c i).toNat < 100000)
  (hg : ∀ j, (fptosi 32 (aGen m c) j : BitVec 32).toNat < 100000) (h : Rel1 (W7 (V6 m c)) pv pi)

include hn he in
theorem V9_col : tcol (F := Ideal) (V9 m c pv pi main_v24) = BitVec.ofNat 32 n := by
  rw [V9_tab]
  exact pair_0 _ _ _ (colH_nat _ n hn he)

include hn he in
theorem V9_beg : tbeg (F := Ideal) (V9 m c pv pi main_v24) = if n = 0 then 1#32 else 0#32 := by
  rw [V9_tab]
  exact pair_1 _ _ _ (begH_nat _ n hn he)

/-- The reference's tokens, of the kernel's arguments. -/
abbrev endTok : IVec S64x1 32 := Cert.ReferenceIdeal.Hand.tokR (aIds m c) (aEmb m c) (aWgt m c) (aBias m c) (aGen m c) (aStep m c)
/-- Its buffer. -/
abbrev endBuf : FVec Ideal S64x2047 .f32 :=
  Cert.ReferenceIdeal.Hand.bufV (Cert.ReferenceIdeal.Hand.rgen (aGen m c) (aStep m c)) (fptosi 32 (Cert.ReferenceIdeal.Hand.rpos (aStep m c))) (endTok m c)
/-- Its step. -/
abbrev endStep : FVec Ideal S1 .f32 := addf (Cert.ReferenceIdeal.Hand.rpos (aStep m c))
  (broadcastInDim Cert.ReferenceIdeal.S1 ![] Cert.ReferenceIdeal.Gen.bcast_S_S1 (constant (F := Ideal) Cert.ReferenceIdeal.S_ .f32 0x3F800000#32))

include hn he hi hg h

theorem V9_mergeTok : mergeTok (F := Ideal) (V9 m c pv pi main_v17) (V9 m c pv pi main_v21_0) (V9 m c pv pi main_v21_1) = endTok m c := by
  rw [V9_of m c pv pi main_v17 (by decide) (by decide) (by decide) (by decide), V9_0, V9_1]
  exact tok_eq m c n hn he hi hg pv pi h

theorem VE_tok : VE m c pv pi main_v25_0 = endTok m c := (W10_0 _).trans (V9_mergeTok m c pv pi n hn he hi hg h)

theorem VE_buf : VE m c pv pi main_v25_1 = endBuf m c := by
  have hgen : V9 m c pv pi main_arg4 = aGen m c := (V9_of m c pv pi main_arg4 (by decide) (by decide) (by decide) (by decide)).trans
    (V6_arg m c main_arg4 (by decide) (by decide) (by decide) (by decide) (by decide) (by decide))
  refine (W10_1 _).trans ?_
  refine Eq.trans ?_ (buf_of (V9 m c pv pi main_v24) (V9 m c pv pi main_v17) (V9 m c pv pi main_v21_0) (V9 m c pv pi main_v21_1) (aGen m c) (aStep m c) n hn he
    (V9_col m c pv pi n hn he) (V9_beg m c pv pi n hn he) (endTok m c) (V9_mergeTok m c pv pi n hn he hi hg h))
  exact congrArg (mergeBuf (F := Ideal) (V9 m c pv pi main_v24) (V9 m c pv pi main_v17) (V9 m c pv pi main_v21_0) (V9 m c pv pi main_v21_1)) hgen

theorem VE_step : VE m c pv pi main_v25_2 = endStep m c :=
  (W10_2 _).trans (step_of _ (aStep m c) n hn he (V9_col m c pv pi n hn he))

end Cert.Value

end
-- ==== Proof.Algebraic.lean ====
/-
  The idealized kernel and the reference compute the same three results from a decoding state.
-/
module

public import proofs.«01_k».proof.Proof.FramesState
public import proofs.«01_k».proof.Proof.Value.Ends

@[expose] public section

noncomputable section

namespace Cert.Proof

open Idealize.ShloMosaic Idealize.SL.Sem
open Cert.Value

section
variable (m : (ℓ : Loc Cert.KernelIdeal.nD Cert.KernelIdeal.τ Cert.KernelIdeal.sig) → Buf (Elt Ideal) ℓ)

/-- What the precondition says of a core's arguments. -/
theorem state_facts (h : Cert.Pre_KernelIdeal_decoding_state (hPre_decoding_state := factsState) m) (c : Dev Cert.KernelIdeal.nD) :
    (∃ n : ℕ, n < 2047 ∧ eff (aStep m c (ix1 0)) = ((n : ℝ) : EReal)) ∧ (∀ i, (aIds m c i).toNat < 100000)
      ∧ ∀ j, (fptosi 32 (aGen m c) j : BitVec 32).toNat < 100000 := by
  letI := factsState
  obtain ⟨⟨h1, h2⟩, h3⟩ := Cert.Pre.state_of (h c)
  exact ⟨eff_nat (aStep m c (ix1 0)) (h3 (ix1 0)), h1, h2⟩

/-- The kernel's run, with its results as the reference's functions of its arguments. -/
theorem kernel_run (g : Dev Cert.KernelIdeal.nD → PrngReg)
    (h : ∀ c : Dev Cert.KernelIdeal.nD, (∃ n : ℕ, n < 2047 ∧ eff (aStep m c (ix1 0)) = ((n : ℝ) : EReal)) ∧ (∀ i, (aIds m c i).toNat < 100000)
      ∧ ∀ j, (fptosi 32 (aGen m c) j : BitVec 32).toNat < 100000) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v25_0) = endTok m c
      ∧ r.2.mem ((c.tc : Thread Cert.KernelIdeal.nD Cert.KernelIdeal.τ).loc Cert.KernelIdeal.main_v25_1) = endBuf m c
      ∧ r.2.mem ((c.tc : Thread Cert.KernelIdeal.nD Cert.KernelIdeal.τ).loc Cert.KernelIdeal.main_v25_2) = endStep m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  have hw := Cert.KernelIdeal.Hand.words_ok m (fun c => (h c).2.1) fun c => (h c).2.2
  refine (θ_run _ _ _).mono (fun r hr c => ?_)
    ((θ_run _ _ _).mono (fun r hr => hr) (Cert.KernelIdeal.Hand.run m g hw))
  obtain ⟨pv, pi, hR, hb⟩ := hr.1 c
  obtain ⟨⟨n, hn, he⟩, hi, hg⟩ := h c
  refine ⟨(hb Cert.KernelIdeal.main_v25_0 rfl).trans (VE_tok m c pv pi n hn he hi hg hR), (hb Cert.KernelIdeal.main_v25_1 rfl).trans (VE_buf m c pv pi n hn he hi hg hR),
    (hb Cert.KernelIdeal.main_v25_2 rfl).trans (VE_step m c pv pi n hn he hi hg hR),
    (hb Cert.KernelIdeal.main_arg0 rfl).trans (Cert.KernelIdeal.Hand.VE_arg m c pv pi Cert.KernelIdeal.main_arg0 ?_ ?_ ?_ ?_ ?_ ?_ ?_ ?_ ?_ ?_ ?_ ?_ ?_),
    (hb Cert.KernelIdeal.main_arg1 rfl).trans (Cert.KernelIdeal.Hand.VE_arg m c pv pi Cert.KernelIdeal.main_arg1 ?_ ?_ ?_ ?_ ?_ ?_ ?_ ?_ ?_ ?_ ?_ ?_ ?_),
    (hb Cert.KernelIdeal.main_arg2 rfl).trans (Cert.KernelIdeal.Hand.VE_arg m c pv pi Cert.KernelIdeal.main_arg2 ?_ ?_ ?_ ?_ ?_ ?_ ?_ ?_ ?_ ?_ ?_ ?_ ?_),
    (hb Cert.KernelIdeal.main_arg3 rfl).trans (Cert.KernelIdeal.Hand.VE_arg m c pv pi Cert.KernelIdeal.main_arg3 ?_ ?_ ?_ ?_ ?_ ?_ ?_ ?_ ?_ ?_ ?_ ?_ ?_),
    (hb Cert.KernelIdeal.main_arg4 rfl).trans (Cert.KernelIdeal.Hand.VE_arg m c pv pi Cert.KernelIdeal.main_arg4 ?_ ?_ ?_ ?_ ?_ ?_ ?_ ?_ ?_ ?_ ?_ ?_ ?_),
    (hb Cert.KernelIdeal.main_arg5 rfl).trans (Cert.KernelIdeal.Hand.VE_arg m c pv pi Cert.KernelIdeal.main_arg5 ?_ ?_ ?_ ?_ ?_ ?_ ?_ ?_ ?_ ?_ ?_ ?_ ?_)⟩ <;> decide

end

/-- The reference's results, as functions of its arguments. -/
theorem reference_ends (V : Valuation Cert.ReferenceIdeal.τ Cert.ReferenceIdeal.sig (Elt Ideal))
    (a0 : IVec Cert.ReferenceIdeal.S64x1 32) (a1 : FVec Ideal Cert.ReferenceIdeal.S100000x128 .f32) (a2 : FVec Ideal Cert.ReferenceIdeal.S128x100000 .f32)
    (a3 : FVec Ideal Cert.ReferenceIdeal.S100000 .f32) (a4 : FVec Ideal Cert.ReferenceIdeal.S64x2047 .f32) (a5 : FVec Ideal Cert.ReferenceIdeal.S1 .f32)
    (e0 : V (Proc.devRef .tc Cert.ReferenceIdeal.main_arg0) = a0) (e1 : V (Proc.devRef .tc Cert.ReferenceIdeal.main_arg1) = a1)
    (e2 : V (Proc.devRef .tc Cert.ReferenceIdeal.main_arg2) = a2) (e3 : V (Proc.devRef .tc Cert.ReferenceIdeal.main_arg3) = a3)
    (e4 : V (Proc.devRef .tc Cert.ReferenceIdeal.main_arg4) = a4) (e5 : V (Proc.devRef .tc Cert.ReferenceIdeal.main_arg5) = a5) :
    Cert.ReferenceIdeal.Hand.at9 V (Proc.devRef .tc Cert.ReferenceIdeal.main_v47) = Cert.ReferenceIdeal.Hand.tokR a0 a1 a2 a3 a4 a5
    ∧ Cert.ReferenceIdeal.Hand.at9 V (Proc.devRef .tc Cert.ReferenceIdeal.main_v58)
      = Cert.ReferenceIdeal.Hand.bufV (Cert.ReferenceIdeal.Hand.rgen a4 a5) (fptosi 32 (Cert.ReferenceIdeal.Hand.rpos a5)) (Cert.ReferenceIdeal.Hand.tokR a0 a1 a2 a3 a4 a5)
    ∧ Cert.ReferenceIdeal.Hand.at9 V (Proc.devRef .tc Cert.ReferenceIdeal.main_v60) = addf (Cert.ReferenceIdeal.Hand.rpos a5)
      (broadcastInDim Cert.ReferenceIdeal.S1 ![] Cert.ReferenceIdeal.Gen.bcast_S_S1 (constant (F := Ideal) Cert.ReferenceIdeal.S_ .f32 0x3F800000#32)) := by
  subst e0 e1 e2 e3 e4 e5
  exact ⟨Cert.ReferenceIdeal.Hand.result0 V, Cert.ReferenceIdeal.Hand.result1 V, Cert.ReferenceIdeal.Hand.result2 V⟩

/-- The two programs agree on every result. -/
theorem algebraic : Cert.algebraic_KernelIdeal_ReferenceIdeal_pre_decoding_state (hKernelIdeal := Cert.KernelIdeal.Gen.facts)
    (hReferenceIdeal := Cert.ReferenceIdeal.Gen.facts) (hPre_decoding_state := factsState) := by
  intro m g m' g' h hm
  refine ⟨endTok m, endBuf m, endStep m, kernel_run m g (state_facts m h), ?_⟩
  refine (θ_run _ _ _).mono (fun r hr c => ?_) (Cert.ReferenceIdeal.Hand.run m' g')
  obtain ⟨e0, e1, e2, e3, e4, e5⟩ := hm c
  obtain ⟨r0, r1, r2⟩ := reference_ends (StableHlo.launchContents m' c) (aIds m c) (aEmb m c) (aWgt m c) (aBias m c) (aGen m c) (aStep m c) e0 e1 e2 e3 e4 e5
  obtain ⟨a0, a1, a2, a3, a4, a5⟩ := Cert.ReferenceIdeal.Hand.args (StableHlo.launchContents m' c)
  exact ⟨(hr.1 c _).trans r0, (hr.1 c _).trans r1, (hr.1 c _).trans r2, (hr.1 c _).trans a0, (hr.1 c _).trans a1, (hr.1 c _).trans a2, (hr.1 c _).trans a3,
    (hr.1 c _).trans a4, (hr.1 c _).trans a5⟩

end Cert.Proof

end
-- ==== Proof.lean ====
/-
  The certificate's claim, from its parts.
-/
module

public import proofs.«01_k».proof.Defs
public import proofs.«01_k».proof.Proof.Frames
public import proofs.«01_k».proof.Proof.FramesState
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, factsIds, factsState,
    frame_kernel, frame_ideal, frame_ideal_state, frame_reference, frame_reference_state, preserves, algebraic⟩

end Cert.Proof

end
